-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4096x1024 : Shape := ⟨2, ![4096, 1024]⟩
abbrev S4096 : Shape := ⟨1, ![4096]⟩
abbrev S1000x64 : Shape := ⟨2, ![1000, 64]⟩
abbrev S1088x1024 : Shape := ⟨2, ![1088, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : FVec F S4096x1024 .f32) (main_arg1 : IVec S4096 32) (main_arg2 : FVec F S1000x64 .f32) (main_arg3 : FVec F S1088x1024 .f32) (main_arg4 : FVec F S1024 .f32) (main_arg5 : FVec F S1024x512 .f32) (main_arg6 : FVec F S512 .f32) (main_arg7 : FVec F S512x256 .f32) (main_arg8 : FVec F S256 .f32) (main_arg9 : FVec F S256x1 .f32) (main_arg10 : FVec F S1 .f32) : IVec S_ 1 :=
  let main_c : IVec S_ 32 := constantI S_ 32 0#32
  let main_v0 : IVec S4096 32 := broadcastInDim S4096 ![] bcast_S_S4096 main_c
  let main_v1 : IVec S4096 1 := cmpi .sge main_arg1 main_v0
  let main_c_0 : IVec S_ 32 := constantI S_ 32 1000#32
  let main_v2 : IVec S4096 32 := broadcastInDim S4096 ![] bcast_S_S4096 main_c_0
  let main_v3 : IVec S4096 1 := cmpi .slt main_arg1 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  main_v5
-- ==== Kernel.lean ====
abbrev S4096x1024 : Shape := ⟨2, ![4096, 1024]⟩
abbrev S4096 : Shape := ⟨1, ![4096]⟩
abbrev S1000x64 : Shape := ⟨2, ![1000, 64]⟩
abbrev S1088x1024 : Shape := ⟨2, ![1088, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩
abbrev S1000x128 : Shape := ⟨2, ![1000, 128]⟩
abbrev S4096x128 : Shape := ⟨2, ![4096, 128]⟩
abbrev S128 : Shape := ⟨1, ![128]⟩
abbrev S128x128 : Shape := ⟨2, ![128, 128]⟩
abbrev S1x1024 : Shape := ⟨2, ![1, 1024]⟩
abbrev S1x512 : Shape := ⟨2, ![1, 512]⟩
abbrev S1x256 : Shape := ⟨2, ![1, 256]⟩
abbrev S1x1 : Shape := ⟨2, ![1, 1]⟩
abbrev S1x4096 : Shape := ⟨2, ![1, 4096]⟩
abbrev S1024x1024 : Shape := ⟨2, ![1024, 1024]⟩
abbrev S1024x128 : Shape := ⟨2, ![1024, 128]⟩
abbrev S128x1024 : Shape := ⟨2, ![128, 1024]⟩
abbrev S1024x256 : Shape := ⟨2, ![1024, 256]⟩
abbrev S1024x1 : Shape := ⟨2, ![1024, 1]⟩

abbrev nBuf : Table → Nat
  | .hbm => 21
  | .local .tc .vmem => 14
  | .local .scVector .vmem => 2
  | _ => 0

abbrev bufTy : (tb : Table) → Fin (nBuf tb) → BufTy
  | .hbm, ⟨0, _⟩ => ⟨S4096x1024, .f32⟩
  | .hbm, ⟨1, _⟩ => ⟨S4096, .i32⟩
  | .hbm, ⟨2, _⟩ => ⟨S1000x64, .f32⟩
  | .hbm, ⟨3, _⟩ => ⟨S1088x1024, .f32⟩
  | .hbm, ⟨4, _⟩ => ⟨S1024, .f32⟩
  | .hbm, ⟨5, _⟩ => ⟨S1024x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S256x1, .f32⟩
  | .hbm, ⟨10, _⟩ => ⟨S1, .f32⟩
  | .hbm, ⟨11, _⟩ => ⟨S_, .i32⟩
  | .hbm, ⟨12, _⟩ => ⟨S_, .f32⟩
  | .hbm, ⟨13, _⟩ => ⟨S1000x128, .f32⟩
  | .hbm, ⟨14, _⟩ => ⟨S4096x128, .f32⟩
  | .hbm, ⟨15, _⟩ => ⟨S1x1024, .f32⟩
  | .hbm, ⟨16, _⟩ => ⟨S1x512, .f32⟩
  | .hbm, ⟨17, _⟩ => ⟨S1x256, .f32⟩
  | .hbm, ⟨18, _⟩ => ⟨S1x1, .f32⟩
  | .hbm, ⟨19, _⟩ => ⟨S1x4096, .f32⟩
  | .hbm, ⟨20, _⟩ => ⟨S4096, .f32⟩
  | .local .tc .vmem, ⟨0, _⟩ => ⟨S1024x1024, .f32⟩
  | .local .tc .vmem, ⟨1, _⟩ => ⟨S1024x1024, .f32⟩
  | .local .tc .vmem, ⟨2, _⟩ => ⟨S1024x128, .f32⟩
  | .local .tc .vmem, ⟨3, _⟩ => ⟨S1024x128, .f32⟩
  | .local .tc .vmem, ⟨4, _⟩ => ⟨S1088x1024, .f32⟩
  | .local .tc .vmem, ⟨5, _⟩ => ⟨S1x1024, .f32⟩
  | .local .tc .vmem, ⟨6, _⟩ => ⟨S1024x512, .f32⟩
  | .local .tc .vmem, ⟨7, _⟩ => ⟨S1x512, .f32⟩
  | .local .tc .vmem, ⟨8, _⟩ => ⟨S512x256, .f32⟩
  | .local .tc .vmem, ⟨9, _⟩ => ⟨S1x256, .f32⟩
  | .local .tc .vmem, ⟨10, _⟩ => ⟨S256x1, .f32⟩
  | .local .tc .vmem, ⟨11, _⟩ => ⟨S1x1, .f32⟩
  | .local .tc .vmem, ⟨12, _⟩ => ⟨S1x1024, .f32⟩
  | .local .tc .vmem, ⟨13, _⟩ => ⟨S1x1024, .f32⟩
  | .local .scVector .vmem, ⟨0, _⟩ => ⟨S128, .i32⟩
  | .local .scVector .vmem, ⟨1, _⟩ => ⟨S128x128, .f32⟩
  | _, _ => ⟨S4096x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v0_scv : Ref sig .scVector := ⟨.hbm, 13, rfl⟩
abbrev main_arg1_scv : Ref sig .scVector := ⟨.hbm, 1, rfl⟩
abbrev main_v1_scv : Ref sig .scVector := ⟨.hbm, 14, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg8_0 : Ref sig .tc := ⟨.vmem, 10, rfl⟩
abbrev cc1_stg9_0 : Ref sig .tc := ⟨.vmem, 11, rfl⟩
abbrev cc1_stg10_0 : Ref sig .tc := ⟨.vmem, 12, rfl⟩
abbrev cc1_stg10_1 : Ref sig .tc := ⟨.vmem, 13, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem8_0 : DmaSem sig := 13
abbrev cc1_sem9_0 : DmaSem sig := 14
abbrev cc1_sem10_0 : DmaSem sig := 15
abbrev cc1_sem10_1 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_3_r1 : BitVec 32 := 0#32
  ![v2.toNat, 0]
abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1088x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S1x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x1024 : Shape := ⟨2, ![4096, 1024]⟩
abbrev S4096 : Shape := ⟨1, ![4096]⟩
abbrev S1000x64 : Shape := ⟨2, ![1000, 64]⟩
abbrev S1088x1024 : Shape := ⟨2, ![1088, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩
abbrev S4096x1 : Shape := ⟨2, ![4096, 1]⟩
abbrev S1x1 : Shape := ⟨2, ![1, 1]⟩
abbrev S4096x64 : Shape := ⟨2, ![4096, 64]⟩
abbrev S4096x1088 : Shape := ⟨2, ![4096, 1088]⟩
abbrev S1x1024 : Shape := ⟨2, ![1, 1024]⟩
abbrev S4096x512 : Shape := ⟨2, ![4096, 512]⟩
abbrev S1x512 : Shape := ⟨2, ![1, 512]⟩
abbrev S4096x256 : Shape := ⟨2, ![4096, 256]⟩
abbrev S1x256 : Shape := ⟨2, ![1, 256]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S1000x64, .f32⟩
  | .hbm, ⟨3, _⟩ => ⟨S1088x1024, .f32⟩
  | .hbm, ⟨4, _⟩ => ⟨S1024, .f32⟩
  | .hbm, ⟨5, _⟩ => ⟨S1024x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S256x1, .f32⟩
  | .hbm, ⟨10, _⟩ => ⟨S1, .f32⟩
  | .hbm, ⟨11, _⟩ => ⟨S_, .i32⟩
  | .hbm, ⟨12, _⟩ => ⟨S4096, .i32⟩
  | .hbm, ⟨13, _⟩ => ⟨S4096, .i1⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S4096, .i32⟩
  | .hbm, ⟨18, _⟩ => ⟨S4096x1, .i32⟩
  | .hbm, ⟨19, _⟩ => ⟨S1, .i32⟩
  | .hbm, ⟨20, _⟩ => ⟨S_, .i32⟩
  | .hbm, ⟨21, _⟩ => ⟨S4096x1, .i32⟩
  | .hbm, ⟨22, _⟩ => ⟨S4096x1, .i1⟩
  | .hbm, ⟨23, _⟩ => ⟨S1x1, .i32⟩
  | .hbm, ⟨24, _⟩ => ⟨S4096x1, .i32⟩
  | .hbm, ⟨25, _⟩ => ⟨S4096x1, .i1⟩
  | .hbm, ⟨26, _⟩ => ⟨S4096x1, .i1⟩
  | .hbm, ⟨27, _⟩ => ⟨S_, .i1⟩
  | .hbm, ⟨28, _⟩ => ⟨S4096, .i1⟩
  | .hbm, ⟨29, _⟩ => ⟨S4096x64, .f32⟩
  | .hbm, ⟨30, _⟩ => ⟨S4096x64, .i1⟩
  | .hbm, ⟨31, _⟩ => ⟨S_, .f32⟩
  | .hbm, ⟨32, _⟩ => ⟨S4096x64, .f32⟩
  | .hbm, ⟨33, _⟩ => ⟨S4096x64, .f32⟩
  | .hbm, ⟨34, _⟩ => ⟨S4096x1088, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .i1⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x512, .f32⟩
  | .hbm, ⟨47, _⟩ => ⟨S1x512, .f32⟩
  | .hbm, ⟨48, _⟩ => ⟨S4096x512, .f32⟩
  | .hbm, ⟨49, _⟩ => ⟨S4096x512, .f32⟩
  | .hbm, ⟨50, _⟩ => ⟨S_, .f32⟩
  | .hbm, ⟨51, _⟩ => ⟨S4096x512, .f32⟩
  | .hbm, ⟨52, _⟩ => ⟨S4096x512, .i1⟩
  | .hbm, ⟨53, _⟩ => ⟨S_, .f32⟩
  | .hbm, ⟨54, _⟩ => ⟨S4096x512, .f32⟩
  | .hbm, ⟨55, _⟩ => ⟨S4096x512, .f32⟩
  | .hbm, ⟨56, _⟩ => ⟨S4096x512, .f32⟩
  | .hbm, ⟨57, _⟩ => ⟨S4096x256, .f32⟩
  | .hbm, ⟨58, _⟩ => ⟨S1x256, .f32⟩
  | .hbm, ⟨59, _⟩ => ⟨S4096x256, .f32⟩
  | .hbm, ⟨60, _⟩ => ⟨S4096x256, .f32⟩
  | .hbm, ⟨61, _⟩ => ⟨S_, .f32⟩
  | .hbm, ⟨62, _⟩ => ⟨S4096x256, .f32⟩
  | .hbm, ⟨63, _⟩ => ⟨S4096x256, .i1⟩
  | .hbm, ⟨64, _⟩ => ⟨S_, .f32⟩
  | .hbm, ⟨65, _⟩ => ⟨S4096x256, .f32⟩
  | .hbm, ⟨66, _⟩ => ⟨S4096x256, .f32⟩
  | .hbm, ⟨67, _⟩ => ⟨S4096x256, .f32⟩
  | .hbm, ⟨68, _⟩ => ⟨S4096x1, .f32⟩
  | .hbm, ⟨69, _⟩ => ⟨S1x1, .f32⟩
  | .hbm, ⟨70, _⟩ => ⟨S4096x1, .f32⟩
  | .hbm, ⟨71, _⟩ => ⟨S4096x1, .f32⟩
  | .hbm, ⟨72, _⟩ => ⟨S4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_cst : Ref sig .tc := ⟨.hbm, 39, rfl⟩
abbrev main_v6 : Ref sig .tc := ⟨.hbm, 40, rfl⟩
abbrev main_v7 : Ref sig .tc := ⟨.hbm, 41, rfl⟩
abbrev main_cst_0 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_cst_1 : Ref sig .tc := ⟨.hbm, 50, rfl⟩
abbrev main_v15 : Ref sig .tc := ⟨.hbm, 51, rfl⟩
abbrev main_v16 : Ref sig .tc := ⟨.hbm, 52, rfl⟩
abbrev main_cst_2 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_cst_3 : Ref sig .tc := ⟨.hbm, 61, rfl⟩
abbrev main_v24 : Ref sig .tc := ⟨.hbm, 62, rfl⟩
abbrev main_v25 : Ref sig .tc := ⟨.hbm, 63, rfl⟩
abbrev main_cst_4 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩

abbrev nD : Nat := 1
abbrev τ : Topo := Topo.v7x

variable {F : FTy → Type} [FloatOps F]
-- ==== Proof.Setup.lean ====
/-
  The launch of the fused lookup-and-MLP program: the names every other module uses.

  The program runs one SparseCore call (32 vector subcores, each looking up 128 rows of the padded embedding table) and
  then one pipelined TensorCore kernel (the MLP, four blocks of 1024 rows). The proof therefore keeps three copies of
  ghost state side by side: the handshakes of the SparseCore launch, the staging cells of the TensorCore pipeline, and
  the counters of the transfers each subcore starts.

  Everything here is generic in the float interpretation `F`, so the one run serves both the machine's floats and the
  idealized ones.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.ShareLeaves
public import Idealize.ShloMosaic.Lib.ValueIdxCore
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.Pre_in_range

@[expose] public section

noncomputable section

namespace Cert.Proof.Lookup

open Cert.KernelIdeal Cert.KernelIdeal.Gen
open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The call runs on sixteen subcores of each SparseCore, -/
theorem nSub_eq : (K (F := F)).nSub 0 = 16 := rfl
/-- and on two SparseCores. -/
theorem nCore_eq : (K (F := F)).nCore 0 = 2 := rfl

/-- The launch semaphores are distinct where they must be and none is scoped, and the call has no shared buffer. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The ghost state -/

/-- The handshakes' rounds; the pipeline's rounds; the transfers' counters. -/
abbrev UH : Type := URounds (GSem nD τ sig) ℕ
abbrev UP : Type := UR sig nD τ
abbrev UU : Type := UH × (UP × Counters)

local notation "𝕄" => MT nD τ sig (HIx 1) (Elt F) ℕ UU ℕ

/-- Where the handshakes' rounds live, -/
abbrev EH : Emb UH (MT nD τ sig (HIx 1) (Elt F) ℕ UU ℕ) := embL
/-- and the pipeline's. -/
abbrev EP : Emb UP (MT nD τ sig (HIx 1) (Elt F) ℕ UU ℕ) := (Emb.inl : Emb UP (UP × Counters)).trans embR

/-! ## The arrays of the SparseCore call -/

/-- The padded table, -/
abbrev tLoc (d : Dev nD) : Loc nD τ sig := (SparseCore.T d).loc main_v0
/-- the row numbers, -/
abbrev iLoc (d : Dev nD) : Loc nD τ sig := (SparseCore.T d).loc main_arg1
/-- and the rows looked up. -/
abbrev oLoc (d : Dev nD) : Loc nD τ sig := (SparseCore.T d).loc main_v1

/-- The table row a 32-bit word names. -/
def rowOf (w : BitVec 32) : Fin 1000 := ⟨w.toNat % 1000, Nat.mod_lt _ (by decide)⟩

/-- The lookup: row `r` of the result is the row of `tab` that word `r` of `y` names. -/
def gathered (tab : S1000x128.Idx → Elt F .f32) (y : S4096.Idx → BitVec 32) : S4096x128.Idx → Elt F .f32 :=
  fun j => tab (ix2 (rowOf (y (ix1 (j 0)))) (j 1))

/-- What the lookup asks of the row numbers: every word is below 1000. -/
def InRows (y : S4096.Idx → BitVec 32) : Prop := ∀ j, (y j).toNat < 1000

/-! ## How the arrays are cut among the 32 tasks -/

theorem idiv : 32 ∣ S4096.size 0 := ⟨128, rfl⟩
theorem odiv : 32 ∣ S4096x128.size 0 := ⟨128, rfl⟩
/-- Task `i`'s 128 row numbers; -/
abbrev iPart (i : Fin 32) : Rect S4096 := Rect.part (s := S4096) (a₀ := 0) idiv i
/-- its 128 rows of the result. -/
abbrev oPart (i : Fin 32) : Rect S4096x128 := Rect.part (s := S4096x128) (a₀ := 0) odiv i
/-- Its share of the table, which every task reads whole. -/
abbrev tShare (i : Fin 32) : PosShare TreeShare := ShareLeaves.leaf 5 fullShare i

/-- The task that subcore `s` of SparseCore `c` runs. -/
def taskOf (c : Fin 2) (s : Fin 16) : Fin 32 := ⟨2 * s.val + c.val, by omega⟩

/-- Each task is run by exactly one subcore. -/
def taskEquiv : Fin 2 × Fin 16 ≃ Fin 32 where
  toFun p := taskOf p.1 p.2
  invFun i := (⟨i.val % 2, Nat.mod_lt _ (by decide)⟩, ⟨i.val / 2, by omega⟩)
  left_inv := by decide
  right_inv := by decide

variable (tab : (d : Dev nD) → Buf (Elt F) (tLoc d)) (y : (d : Dev nD) → Buf (Elt F) (iLoc d)) (o : (d : Dev nD) → Buf (Elt F) (oLoc d))

/-- What task `i` is given: its row numbers, its share of the table, its rows of the result as they were; -/
def taskIn (d : Dev nD) (i : Fin 32) : sProp 𝕄 :=
  iprop((iLoc d ↦[(iPart i).set]{fullShare} y d) ∗ (tLoc d ↦{tShare i} tab d) ∗ oLoc d ↦[(oPart i).set]{fullShare} o d)
/-- what it gives back: the same, its rows of the result looked up. -/
def taskOut (d : Dev nD) (i : Fin 32) : sProp 𝕄 :=
  iprop((iLoc d ↦[(iPart i).set]{fullShare} y d) ∗ (tLoc d ↦{tShare i} tab d)
    ∗ oLoc d ↦[(oPart i).set]{fullShare} (gathered (tab d) (y d) : Buf (Elt F) (oLoc d)))

instance taskIn_storable (d : Dev nD) (i : Fin 32) : BI.Storable (upEmb : UEmb _ 𝕄) (taskIn tab y o d i) := by
  unfold taskIn; infer_instance
instance taskOut_storable (d : Dev nD) (i : Fin 32) : BI.Storable (upEmb : UEmb _ 𝕄) (taskOut tab y d i) := by
  unfold taskOut; infer_instance

/-- What the handshakes carry: to each SparseCore what its sixteen tasks are given, to each task its own. -/
def P : (K (F := F)).Pay (nD := nD) (Val := Elt F) (Name := ℕ) (U := UU) where
  st := fun q d c => match q with
    | 0 => bigSep Finset.univ fun i : Fin 16 => taskIn tab y o d (taskOf (Fin.cast nCore_eq c) i)
  dn := fun q d c => match q with
    | 0 => bigSep Finset.univ fun i : Fin 16 => taskOut tab y d (taskOf (Fin.cast nCore_eq c) i)
  go := fun q d c i => match q with | 0 => taskIn tab y o d (taskOf (Fin.cast nCore_eq c) (Fin.cast nSub_eq i))
  td := fun q d c i => match q with | 0 => taskOut tab y d (taskOf (Fin.cast nCore_eq c) (Fin.cast nSub_eq i))
  x := fun _ _ => iprop(emp)

instance P_storable : (P (F := F) tab y o).IsStorable where
  st q d c := match q with
    | 0 => (inferInstance : BI.Storable (upEmb : UEmb _ 𝕄)
      (bigSep Finset.univ fun i : Fin 16 => taskIn tab y o d (taskOf (Fin.cast nCore_eq c) i)))
  dn q d c := match q with
    | 0 => (inferInstance : BI.Storable (upEmb : UEmb _ 𝕄)
      (bigSep Finset.univ fun i : Fin 16 => taskOut tab y d (taskOf (Fin.cast nCore_eq c) i)))
  go q d c i := match q with
    | 0 => (inferInstance : BI.Storable (upEmb : UEmb _ 𝕄) (taskIn tab y o d (taskOf (Fin.cast nCore_eq c) (Fin.cast nSub_eq i))))
  td q d c i := match q with
    | 0 => (inferInstance : BI.Storable (upEmb : UEmb _ 𝕄) (taskOut tab y d (taskOf (Fin.cast nCore_eq c) (Fin.cast nSub_eq i))))

/-! ## The cut, and its joining -/

/-- The whole row numbers are their 32 parts. -/
theorem idx_parts (d : Dev nD) (f : Buf (Elt F) (iLoc d)) :
    (iLoc d ↦{fullShare} f : sProp 𝕄) = bigSep Finset.univ fun i : Fin 32 => iLoc d ↦[(iPart i).set]{fullShare} f := by
  rw [← pointsTo_biUnion Finset.univ (ℓ := iLoc d) (fun i => (iPart i).set) fun i _ j _ h => Rect.part_disjoint idiv h,
    Rect.biUnion_part idiv]
/-- The whole result is its 32 parts. -/
theorem out_parts (d : Dev nD) (f : Buf (Elt F) (oLoc d)) :
    (oLoc d ↦{fullShare} f : sProp 𝕄) = bigSep Finset.univ fun i : Fin 32 => oLoc d ↦[(oPart i).set]{fullShare} f := by
  rw [← pointsTo_biUnion Finset.univ (ℓ := oLoc d) (fun i => (oPart i).set) fun i _ j _ h => Rect.part_disjoint odiv h,
    Rect.biUnion_part odiv]

/-- The whole table is its 32 shares. -/
theorem tab_shares (d : Dev nD) (f : Buf (Elt F) (tLoc d)) :
    (tLoc d ↦{fullShare} f : sProp 𝕄) = bigSep Finset.univ fun i : Fin 32 => tLoc d ↦{tShare i} f :=
  ShareLeaves.pointsTo_leaves Finset.univ f 5 fullShare

/-- A family over the 32 tasks is the family over the SparseCores of the families over their subcores. -/
theorem tasks_eq (Φ : Fin 32 → sProp 𝕄) :
    bigSep Finset.univ Φ = bigSep Finset.univ fun c : Fin 2 => bigSep Finset.univ fun s : Fin 16 => Φ (taskOf c s) := by
  rw [bigSep_univ_equiv taskEquiv Φ, bigSep_univ_prod]; rfl

/-- The three arrays held whole are what the call hands its SparseCores, -/
theorem st_eq (d : Dev nD) :
    (bigSep Finset.univ fun c : Fin ((K (F := F)).nCore 0) => (P tab y o).st 0 d c)
      = (iprop((iLoc d ↦{fullShare} y d) ∗ (tLoc d ↦{fullShare} tab d) ∗ oLoc d ↦{fullShare} o d) : sProp 𝕄) := by
  rw [idx_parts, out_parts, tab_shares]
  show (bigSep Finset.univ fun c : Fin 2 => bigSep Finset.univ fun s : Fin 16 => taskIn tab y o d (taskOf c s)) = _
  rw [← tasks_eq (fun i => taskIn tab y o d i)]; unfold taskIn
  rw [bigSep_sep', bigSep_sep']
/-- and what they hand back is the three arrays whole, the result looked up. -/
theorem dn_eq (d : Dev nD) :
    (bigSep Finset.univ fun c : Fin ((K (F := F)).nCore 0) => (P tab y o).dn 0 d c)
      = (iprop((iLoc d ↦{fullShare} y d) ∗ (tLoc d ↦{fullShare} tab d)
          ∗ oLoc d ↦{fullShare} (gathered (tab d) (y d) : Buf (Elt F) (oLoc d))) : sProp 𝕄) := by
  rw [idx_parts, out_parts, tab_shares]
  show (bigSep Finset.univ fun c : Fin 2 => bigSep Finset.univ fun s : Fin 16 => taskOut tab y d (taskOf c s)) = _
  rw [← tasks_eq (fun i => taskOut tab y d i)]; unfold taskOut
  rw [bigSep_sep', bigSep_sep']

/-- A SparseCore hands each of its tasks its part of what it was given, and hands back what they hand it. -/
theorem vecSplit : (K (F := F)).VecSplit' (P tab y o) 0 := by
  intro d c
  show (bigSep Finset.univ fun i : Fin 16 => taskIn tab y o d (taskOf (Fin.cast nCore_eq c) i)) ⊢ |={Set.univ}=> iprop(
      (bigSep Finset.univ fun i : Fin 16 => taskIn tab y o d (taskOf (Fin.cast nCore_eq c) i))
      ∗ ((bigSep Finset.univ fun i : Fin 16 => taskOut tab y d (taskOf (Fin.cast nCore_eq c) i))
          -∗ (bigSep Finset.univ fun i : Fin 16 => taskOut tab y d (taskOf (Fin.cast nCore_eq c) i))))
  iintro H; imodintro
  isplitl [H]; · iexact H
  iintro H; iexact H

end Cert.Proof.Lookup

end
-- ==== Proof.Bounds.lean ====
/-
  The precondition, read back: it is the bit "every entry of y lies between 0 and 999", and where that bit is set every
  entry of y names a row of the table.
-/
module

public import proofs.«01_k».proof.Proof.Setup
public import proofs.«01_k».proof.Proof.Gen.Pre_in_range
public import Idealize.ShloMosaic.Lib.ReduceAll
public import Idealize.ShloMosaic.Lib.WordCmp

@[expose] public section

set_option maxRecDepth 16384

noncomputable section

namespace Cert.Proof.Lookup

open Cert.Pre_in_range Cert.Pre_in_range.Gen Idealize.ShloMosaic
open Idealize.ShloMosaic.WordCmp

variable {F : FTy → Type} [FloatOps F]

/-- A rank-0 shape has one index. -/
theorem idx_scalar_unique : Subsingleton S_.Idx := ⟨fun i j => funext fun a => a.elim0⟩

/-- Where the precondition's bit is set, every entry of y is below 1000 as a natural number. -/
theorem inRows_of_pre (x : FVec F S4096x1024 .f32) (y : IVec S4096 32) (t : FVec F S1000x64 .f32) (w0 : FVec F S1088x1024 .f32)
    (b0 : FVec F S1024 .f32) (w1 : FVec F S1024x512 .f32) (b1 : FVec F S512 .f32) (w2 : FVec F S512x256 .f32)
    (b2 : FVec F S256 .f32) (w3 : FVec F S256x1 .f32) (b3 : FVec F S1 .f32)
    (h : Cert.Pre_in_range.fn x y t w0 b0 w1 b1 w2 b2 w3 b3 = fun _ => 1#1) : InRows y := by
  intro j
  have e := congrFun h (fun a => a.elim0)
  have := idx_scalar_unique
  have e' := Host.reduce_andi_all _ _ _ _ _ e j
  have e2 : IntOp.andi (IntOp.cmpi .sge (y j) 0#32) (IntOp.cmpi .slt (y j) (BitVec.ofNat 32 1000)) = 1#1 := e'
  rw [andi_sge_zero_slt_ofNat (by decide)] at e2
  by_contra hn
  rw [decide_eq_false hn] at e2
  exact absurd e2 (by decide)

end Cert.Proof.Lookup

end
-- ==== Proof.Tile.lean ====
/-
  One task of the SparseCore call: a vector subcore copies its 128 row numbers into its memory, gathers those rows of the
  padded table by one indirect transfer, and copies them out to its 128 rows of the result.

  The theorem at the end (`tileObl`) is what the launch asks of every subcore: from what the task is given (`taskIn`) its
  program terminates with what it gives back (`taskOut`), the rows of the result being exactly the rows looked up.
-/
module

public import proofs.«01_k».proof.Proof.Setup

@[expose] public section

noncomputable section

namespace Cert.Proof.Lookup

open Cert.KernelIdeal Cert.KernelIdeal.Gen
open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.ValueIdx (ix1 ix2)

variable {F : FTy → Type}

local notation "𝕄" => MT nD τ sig (HIx 1) (Elt F) ℕ UU ℕ

/-! ## The operands as the subcore names them -/

/-- The padded table, the row numbers, the gathered array; a tile's own list of numbers and its own rows. -/
abbrev tabM : Memref sig .scVector .hbm S1000x128 .f32 := Memref.whole main_v0_scv
abbrev idxM : Memref sig .scVector .hbm S4096 .i32 := Memref.whole main_arg1_scv
abbrev outM : Memref sig .scVector .hbm S4096x128 .f32 := Memref.whole main_v1_scv
abbrev lstM : Memref sig .scVector .vmem S128 .i32 := Memref.whole cc0_scratch0
abbrev rowM : Memref sig .scVector .vmem S128x128 .f32 := Memref.whole cc0_scratch1

section Task

variable (d : Dev nD) (L : grid0.Coords)

/-- The SparseCore and the subcore that run the task at coordinates `L`, -/
abbrev coreAt (L : grid0.Coords) : Fin τ.nSC := (L 0).castLE hcore0
abbrev subAt (L : grid0.Coords) : Fin τ.nSub := (L 1).castLE hsub0
/-- the task's number, -/
abbrev taskAt (L : grid0.Coords) : Fin 32 := taskOf (L 0) (L 1)
/-- and its thread. -/
abbrev thrAt (d : Dev nD) (L : grid0.Coords) : Thread nD τ := V d (coreAt L) (subAt L)

/-- The 128 row numbers and the 128 rows of the result the task addresses, and the table. -/
abbrev idxRect (L : grid0.Coords) : Rect S4096 := Rect.unit (s := S4096) (k0_off1 L) S128.size (k0_off1_inb L)
abbrev outRect (L : grid0.Coords) : Rect S4096x128 := Rect.unit (s := S4096x128) (k0_off2 L) S128x128.size (k0_off2_inb L)
abbrev idxSlice (L : grid0.Coords) : Memref sig .scVector .hbm S128 .i32 := idxM.slice (idxRect L) (fun _ => rfl)
abbrev outSlice (L : grid0.Coords) : Memref sig .scVector .hbm S128x128 .f32 := outM.slice (outRect L) (fun _ => rfl)
abbrev tabAll : Memref sig .scVector .hbm S1000x128 .f32 :=
  tabM.slice (Rect.unit (s := S1000x128) ![0, 0] S1000x128.size inb_S1000x128_S1000x128_0_0) (fun _ => rfl)

theorem taskAt_val : (taskAt L).val = 2 * (L 1).val + (L 0).val := rfl

/-- The row numbers the task addresses are its part of them, -/
theorem idxRect_eq : idxRect L = iPart (taskAt L) := by
  unfold idxRect iPart Rect.part Rect.block
  congr 1 <;> funext a <;> (match a with | 0 => ?_)
  · rw [k0_off1_eq]; have := taskAt_val L; simp [Shape.partIx, Shape.partSize]; omega
  · simp [Shape.partSize]
/-- and so are the rows of the result. -/
theorem outRect_eq : outRect L = oPart (taskAt L) := by
  unfold outRect oPart Rect.part Rect.block
  congr 1 <;> funext a <;> (match a with | 0 => ?_ | 1 => ?_)
  · rw [k0_off2_eq]; have := taskAt_val L; simp [Shape.partIx, Shape.partSize]; omega
  · rw [k0_off2_eq]; simp [Shape.partIx]
  · simp [Shape.partSize]
  · simp [Shape.partSize]

/-- The elements under the two slices. -/
theorem set_idxSlice : (idxSlice L).view.set = (iPart (taskAt L)).set := by
  rw [← idxRect_eq L]
  show ((View.whole (main_arg1_scv : Ref sig .scVector)).slice (idxRect L)).set = _
  rw [View.set_slice]; exact Finset.map_refl
theorem set_outSlice : (outSlice L).view.set = (oPart (taskAt L)).set := by
  rw [← outRect_eq L]
  show ((View.whole (main_v1_scv : Ref sig .scVector)).slice (outRect L)).set = _
  rw [View.set_slice]; exact Finset.map_refl

/-- The subcore's view of each operand is the array @main's thread names. -/
theorem pts_idx (f : Buf (Elt F) (iLoc d)) :
    (iLoc d ↦[(iPart (taskAt L)).set]{fullShare} f : sProp 𝕄)
      = (idxSlice L).view.loc (thrAt d L) ↦[(idxSlice L).view.set]{fullShare} f := by
  rw [set_idxSlice]
theorem pts_out (f : Buf (Elt F) (oLoc d)) :
    (oLoc d ↦[(oPart (taskAt L)).set]{fullShare} f : sProp 𝕄)
      = (outSlice L).view.loc (thrAt d L) ↦[(outSlice L).view.set]{fullShare} f := by
  rw [set_outSlice]
theorem pts_tab (q : PosShare TreeShare) (f : Buf (Elt F) (tLoc d)) :
    (tLoc d ↦{q} f : sProp 𝕄) = tabM.view.loc (thrAt d L) ↦{q} f := rfl
theorem pts_lst (f : Buf (Elt F) ((thrAt d L).loc cc0_scratch0)) :
    ((thrAt d L).loc cc0_scratch0 ↦{fullShare} f : sProp 𝕄) = lstM.view.loc (thrAt d L) ↦{fullShare} f := rfl
theorem pts_row (f : Buf (Elt F) ((thrAt d L).loc cc0_scratch1)) :
    ((thrAt d L).loc cc0_scratch1 ↦{fullShare} f : sProp 𝕄) = rowM.view.loc (thrAt d L) ↦{fullShare} f := rfl

/-! ## What the subcore owns -/

/-- The cells the task's three transfers complete on. -/
abbrev gatherCell : GSem nD τ sig := (thrAt d L, .dma cc0_scratch2.sem)
abbrev fetchCell : GSem nD τ sig := (thrAt d L, .dma cc0_scoped0.sem)
abbrev storeCell : GSem nD τ sig := (thrAt d L, .dma cc0_scoped1.sem)

/-- The subcore's counters at zero are those three and the rest. -/
theorem ownSems0_split :
    (ownSems0 (thrAt d L) : sProp 𝕄)
      = iprop(semVal (gatherCell d L) 0 ∗ semVal (fetchCell d L) 0 ∗ semVal (storeCell d L) 0
          ∗ bigSep ((((ownCells (thrAt d L)).erase (gatherCell d L)).erase (fetchCell d L)).erase (storeCell d L)) fun g => semVal g 0) := by
  unfold SparseCore.Cfg.ownSems0
  rw [SparseCore.bigSep_erase' ((mem_ownCells (g := gatherCell d L)).mpr ⟨rfl, by
      show (SemLoc.dma cc0_scratch2.sem : SemLoc sig).isScoped .scVector = true; decide⟩),
    SparseCore.bigSep_erase' (Finset.mem_erase.mpr ⟨by simp; decide, (mem_ownCells (g := fetchCell d L)).mpr ⟨rfl, by
      show (SemLoc.dma cc0_scoped0.sem : SemLoc sig).isScoped .scVector = true; decide⟩⟩),
    SparseCore.bigSep_erase' (Finset.mem_erase.mpr ⟨by simp; decide, Finset.mem_erase.mpr ⟨by simp; decide,
      (mem_ownCells (g := storeCell d L)).mpr ⟨rfl, by show (SemLoc.dma cc0_scoped1.sem : SemLoc sig).isScoped .scVector = true; decide⟩⟩⟩)]

/-- The subcore's buffers are its list of row numbers, its rows, and the rest. -/
theorem ownBufs_split :
    (ownBufs (thrAt d L) : sProp 𝕄)
      = iprop((∃ f, (thrAt d L).loc cc0_scratch0 ↦{fullShare} f) ∗ (∃ f, (thrAt d L).loc cc0_scratch1 ↦{fullShare} f)
          ∗ bigSep (((ownRefs (τ := τ) (.scVector (coreAt L) (subAt L))).erase ((Proc.scVector (coreAt L) (subAt L)).devRef cc0_scratch0)).erase
              ((Proc.scVector (coreAt L) (subAt L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (coreAt L) (subAt L))
    (b := (Proc.scVector (coreAt L) (subAt L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (coreAt L) (subAt L)) (b := (Proc.scVector (coreAt L) (subAt L)).devRef cc0_scratch1) rfl⟩)]

/-! ## What the task computes -/

/-- Entry `k` of the task's list is row number `128 · task + k`. -/
theorem idx_read (f : Buf (Elt F) (iLoc d)) (j : S128.Idx) :
    (idxSlice L).view.read (Elt F) f j = f ((idxSlice L).view.emb j) := (View.read_apply _ _).trans (cast_eq _ _)

/-- The list's words name rows of the table. -/
theorem list_inRows {y : Buf (Elt F) (iLoc d)} (hy : InRows y) (fs : Buf (Elt F) ((thrAt d L).loc cc0_scratch0))
    (pay : S128.Idx → Elt F .i32) (hpay : pay = (idxSlice L).view.read (Elt F) y) :
    ∀ x, (lstM.view.read (Elt F) (View.write (Elt F) lstM.view fs pay Finset.univ) x).toNat < S1000x128.size gathers_S1000x128_S128x128.axis := by
  subst hpay; intro x
  rw [View.write_whole_univ]
  simp only [Memref.view_whole, View.read_whole]
  rw [idx_read]; exact hy _

/-- Entry `k` of a list of 128 words, in row-major order, is the word at index `k`. -/
theorem list_entry (k : Fin S128.numel) : S128.rowMajor.symm k = ix1 (Fin.cast rfl k : Fin 128) := by
  rw [Equiv.symm_apply_eq]; apply Fin.ext; rw [Shape.rowMajor_val_one]; rfl

/-- Where the task's two slices lie: index `j` of its list, and index `x` of its rows, in coordinates. -/
theorem idx_emb_val (j : S128.Idx) : ((idxSlice L).view.emb j 0).val = 256 * (L 1).val + 128 * (L 0).val + (j 0).val := by
  show ((idxRect L).emb j 0).val = _
  rw [Rect.emb_apply]; simp [k0_off1_eq]
theorem out_emb_val0 (x : S128x128.Idx) : ((outSlice L).view.emb x 0).val = 256 * (L 1).val + 128 * (L 0).val + (x 0).val := by
  show ((outRect L).emb x 0).val = _
  rw [Rect.emb_apply]; simp [k0_off2_eq]
theorem out_emb_val1 (x : S128x128.Idx) : ((outSlice L).view.emb x 1).val = (x 1).val := by
  show ((outRect L).emb x 1).val = _
  rw [Rect.emb_apply]; simp [k0_off2_eq]

/-- The task's view of the whole table is the table. -/
theorem tab_read (tab : Buf (Elt F) (tLoc d)) (i : S1000x128.Idx) : (tabAll).view.read (Elt F) tab i = tab i := by
  refine ((View.read_apply _ _).trans (cast_eq _ _)).trans (congrArg tab ?_)
  funext a
  match a with
  | 0 => exact Fin.ext ((Rect.emb_apply _ _ _).trans (by simp))
  | 1 => exact Fin.ext ((Rect.emb_apply _ _ _).trans (by simp))

/-- What the indirect transfer lands at index `x` of the subcore's rows is the lookup at the index of the result that
    the task's copy-out writes from `x`. -/
theorem payload_eq (tab : Buf (Elt F) (tLoc d)) {y : Buf (Elt F) (iLoc d)} (hy : InRows y) (hn : S128.numel = S128x128.size gathers_S1000x128_S128x128.axis')
    (lst : S128.Idx → Elt F .i32) (hl : lst = (idxSlice L).view.read (Elt F) y) (hin : ∀ x, (lst x).toNat < S1000x128.size gathers_S1000x128_S128x128.axis) (x : S128x128.Idx) :
    SparseCore.gatherPayload gathers_S1000x128_S128x128 ((tabAll).view.read (Elt F) tab) (SparseCore.rows lst hn hin) x
      = gathered tab y ((outSlice L).view.emb x) := by
  have hw : ∀ k : Fin S128.numel, k.val = (x 0).val → lst (S128.rowMajor.symm k) = y (ix1 ((outSlice L).view.emb x 0)) := by
    intro k hk
    rw [hl, idx_read, list_entry]
    congr 1; funext b
    match b with
    | 0 => exact Fin.ext ((idx_emb_val L _).trans ((congrArg (_ + ·) hk).trans (out_emb_val0 L x).symm))
  unfold SparseCore.gatherPayload gathered
  rw [tab_read]
  congr 1; funext a; apply Fin.ext
  match a with
  | 0 =>
    refine (congrArg Fin.val (Shape.Gathers.idx_axis gathers_S1000x128_S128x128 (SparseCore.rows lst hn hin) x)).trans ?_
    exact (congrArg BitVec.toNat (hw _ rfl)).trans (Nat.mod_eq_of_lt (hy _)).symm
  | 1 =>
    exact (Shape.Gathers.idx_of_ne gathers_S1000x128_S128x128 (SparseCore.rows lst hn hin) x 1 (by decide)).trans (out_emb_val1 L x).symm

/-- Rows of the result that read as the lookup hold it. -/
theorem out_written (tab : Buf (Elt F) (tLoc d)) (y : Buf (Elt F) (iLoc d)) (f : Buf (Elt F) (oLoc d))
    (hf : ∀ x, (outSlice L).view.read (Elt F) f x = gathered tab y ((outSlice L).view.emb x)) :
    ((outSlice L).view.loc (thrAt d L) ↦[(outSlice L).view.set]{fullShare} f : sProp 𝕄)
      ⊢ oLoc d ↦[(oPart (taskAt L)).set]{fullShare} (gathered tab y : Buf (Elt F) (oLoc d)) := by
  rw [pts_out]
  refine Entails.of_eq (pointsTo_congr fun i hi => ?_)
  obtain ⟨x, -, rfl⟩ := Finset.mem_map.mp hi
  exact ((View.read_apply _ _).trans (cast_eq _ _)).symm.trans (hf x)

variable [FloatOps F]
variable (tab : (d : Dev nD) → Buf (Elt F) (tLoc d)) (y : (d : Dev nD) → Buf (Elt F) (iLoc d)) (o : (d : Dev nD) → Buf (Elt F) (oLoc d))

set_option maxHeartbeats 4000000 in
/-- The task at coordinates `L` on device `d`: the fetch of its row numbers, the indirect transfer over them, the copy-out
    of its rows, each waited for. -/
theorem task_run (hF : (K (F := F)).Facts) (hy : InRows (y d)) (O : CellTallies nD τ sig (HIx 1)) (W : Waits sig (HIx 1)) (hO : ∀ g, O g none = 0) :
    iprop(levAts (K (F := F)).L (K (F := F)).lev ∗ emp ∗ taskIn tab y o d (taskAt L)
        ∗ scopedBufs (thrAt d L) ∗ scopedSems0 (thrAt d L) ∗ owes (thrAt d L) O W)
      ⊢ wp frame (wpE (defs₀ (F := F)) 𝒱₀ (thrAt d L) none) Set.univ
          (cc0_gather_k L tabM (Memref.isWhole_whole _) idxM (Memref.isWhole_whole _) outM (Memref.isWhole_whole _)
            lstM (Memref.isWhole_whole _) rowM (Memref.isWhole_whole _) cc0_scratch2 cc0_scoped0 cc0_scoped1)
          fun _ => iprop(taskOut tab y d (taskAt L)
            ∗ scopedBufs (thrAt d L) ∗ scopedSems0 (thrAt d L)
            ∗ ∃ W', ⌜∀ p ∈ W', p ∈ W ∨ p.2 = none⌝ ∗ owes (thrAt d L) O W') := by
  simp only [cc0_gather_k_eq_skeleton]; unfold cc0_gather_k_skel taskIn taskOut
  rw [(K (F := F)).scopedBufs_V hF d (coreAt L) (subAt L), SparseCore.Cfg.scopedSems0_V (Val := Elt F) d (coreAt L) (subAt L), ownSems0_split, ownBufs_split]
  iintro ⟨#Hlv, -, ⟨Hi, Ht, Ho⟩, ⟨⟨%fs, Hs⟩, ⟨%fr, Hr⟩, Hbufs⟩, ⟨HsemG, HsemF, HsemS, Hsems⟩, HO⟩
  ihave Hmw := (show levAts (K (F := F)).L (K (F := F)).lev ⊢ Transfers.MayWaits (thrAt d L) (default : HIx 1) O from
    (K (F := F)).mayWaits_none (thr := thrAt d L) hO) $$ Hlv
  ihave Hi' := (Entails.of_eq (pts_idx (F := F) d L _)) $$ Hi
  ihave Ho' := (Entails.of_eq (pts_out (F := F) d L _)) $$ Ho
  ihave Ht' := (Entails.of_eq (pts_tab (F := F) d L _ _)) $$ Ht
  ihave Hs' := (Entails.of_eq (pts_lst (F := F) d L _)) $$ Hs
  ihave Hr' := (Entails.of_eq (pts_row (F := F) d L _)) $$ Hr
  sl_exec
  ihave Hts := (pointsTo_split_subset (q := tShare (taskAt L)) (f := tab d) (S := Finset.univ) (Finset.subset_univ (tabAll).view.set)).1 $$ Ht'
  icases Hts with ⟨Hts, Htr⟩
  have hrs : rowM.view.set = Finset.univ := View.set_whole _
  have hss : lstM.view.set = Finset.univ := View.set_whole _
  ihave Hr2 := (Entails.of_eq (show (rowM.view.loc (thrAt d L) ↦{fullShare} fr : sProp 𝕄)
      = rowM.view.loc (thrAt d L) ↦[rowM.view.set]{fullShare} fr by rw [hrs])) $$ Hr'
  ihave Hs2 := (Entails.of_eq (show (lstM.view.loc (thrAt d L) ↦{fullShare} View.write (Elt F) lstM.view fs (task_run.sl.dma0 d L y) Finset.univ : sProp 𝕄)
      = lstM.view.loc (thrAt d L) ↦[lstM.view.set]{fullShare} View.write (Elt F) lstM.view fs (task_run.sl.dma0 d L y) Finset.univ
      by rw [hss])) $$ Hs'
  have hin := list_inRows d L hy fs (task_run.sl.dma0 d L y) rfl
  have hN : ∀ h : S1000x128.Gathers 0 S128x128, ∑ j, (rowM.slice (S128x128.rowRect h.axis' j) (S128x128.stride_rowRect h.axis' j)).view.dmaCredit
      = rowM.view.dmaCredit := by decide +kernel
  iapply (SparseCore.wp_indirectGatherLocal countersEmb 𝒱₀ (thrAt d L) none (hg := gathers_S1000x128_S128x128) (default : HIx 1)
      rowM.view.dmaCredit (hN _) (by decide) hin) $$ [Hts Hr2 Hs2 HsemG]
  · isplitl [Hts]; · iexact Hts
    isplitl [Hr2]; · iexact Hr2
    isplitl [Hs2]; · iexact Hs2
    iexact HsemG
  iintro Hfl
  sl_exec
  iapply (Transfers.wp_waitLocalO countersEmb 𝒱₀ (thrAt d L) none (default : HIx 1) (rfl : rowM.view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr3, Hts, Hs3⟩, HsemG, HO⟩
  ihave Ht' := (pointsTo_split_subset (q := tShare (taskAt L)) (f := tab d) (S := Finset.univ) (Finset.subset_univ (tabAll).view.set)).2 $$ [Hts Htr]; · isplitl [Hts] <;> iassumption
  ihave Hr4 := (Entails.of_eq (show (rowM.view.loc (thrAt d L) ↦[rowM.view.set]{fullShare} _ : sProp 𝕄)
      = rowM.view.loc (thrAt d L) ↦{fullShare} _ by rw [hrs])) $$ Hr3
  ihave Hs4 := (Entails.of_eq (show (lstM.view.loc (thrAt d L) ↦[lstM.view.set]{fullShare} _ : sProp 𝕄)
      = lstM.view.loc (thrAt d L) ↦{fullShare} _ by rw [hss])) $$ Hs3
  sl_exec
  sl_step
  isplitl [Hi' Ht' Ho']
  · isplitl [Hi']; · iapply (Entails.of_eq (pts_idx (F := F) d L _).symm); iexact Hi'
    isplitl [Ht']; · iexact Ht'
    iapply (out_written d L (tab d) (y d) _ fun x => ((congrFun (View.read_writes_whole _ _ _) x).trans ?_)) $$ Ho'
    unfold task_run.sl.dma0_1
    refine (congrFun ((ReadAs.apply_same _).trans (View.write_whole_univ cc0_scratch1 fr _)) x).trans ?_
    exact payload_eq d L (tab d) hy rfl _ ((View.write_whole_univ cc0_scratch0 fs _).trans rfl) hin x
  isplitl [Hs4 Hr4 Hbufs]
  · isplitl [Hs4]; · iexists _; iexact Hs4
    isplitl [Hr4]; · iexists _; iexact Hr4
    iexact Hbufs
  isplitl [HsemG HsemF HsemS Hsems]
  · isplitl [HsemG]; · iexact HsemG
    isplitl [HsemF]; · iexact HsemF
    isplitl [HsemS]; · iexact HsemS
    iexact Hsems
  iexists _; isplitr
  swap; · iexact HO
  ipureintro; intro p hp
  simp only [Finset.mem_insert] at hp
  rcases hp with rfl | rfl | rfl | hp
  · exact .inr rfl
  · exact .inr rfl
  · exact .inr rfl
  · exact .inl hp

/-! ## What the launch asks of every subcore -/

/-- The coordinates of subcore `s` of SparseCore `c`. -/
def coordsAt (c : Fin (grid0.bound 0)) (s : Fin (grid0.bound 1)) : grid0.Coords :=
  fun | 0 => c | 1 => s | ⟨_ + 2, h⟩ => absurd h (Nat.not_lt.2 (Nat.le_add_left _ _))

/-- The body of the call on a vector subcore is the task at its coordinates. -/
theorem defs₀_scVector (c : Fin τ.nSC) (s : Fin τ.nSub) :
    defs₀ (F := F) (.scVector c s) 0 ()
      = SparseCore.onTile hcore0 hsub0 (fun c s => cc0_gather_k (coordsAt c s)
          tabM (Memref.isWhole_whole _) idxM (Memref.isWhole_whole _) outM (Memref.isWhole_whole _)
          lstM (Memref.isWhole_whole _) rowM (Memref.isWhole_whole _) cc0_scratch2 cc0_scoped0 cc0_scoped1) ⟨⟩ c s := rfl

/-- The waits a task records are within what the launch allows it. -/
theorem widen_waits {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every subcore runs its task, from what it is given to what it gives back. -/
theorem tileObl (hF : (K (F := F)).Facts) (hy : ∀ d, InRows (y d)) : (K (F := F)).TileObl (D (F := F)) 𝒱 (P tab y o) v₀ 0 := by
  intro d c i O W hO _ _
  simp only [show (P tab y o).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_scVector]; simp only [SparseCore.onTile, hci, and_self, ↓reduceDIte]
  exact (task_run d (coordsAt ⟨_, hci.1⟩ ⟨_, hci.2⟩) tab y o hF (hy d) O W hO).trans (wp_mono frame _ _ fun _ => widen_waits)

end Task

end Cert.Proof.Lookup

end
-- ==== Proof.Mlp.lean ====
/-
  The TensorCore kernel: the three-layer perceptron over four blocks of 1024 rows, run by the pipeline.

  The arrays the kernel finds are arbitrary (`V`): what they hold when @main reaches the kernel is the next module's
  business. This module says what one grid point computes from the blocks it is handed (`mlpBlock`), that the printed
  body does compute it, and what the result array holds once the pipeline has run over all four points.
-/
module

public import proofs.«01_k».proof.Proof.Setup
public import Idealize.ShloMosaic.Lib.Pipeline.FrameBody
public import Idealize.ShloMosaic.Lib.Pipeline.Value

@[expose] public section

set_option maxRecDepth 16384

noncomputable section

namespace Cert.Proof.Lookup

open Cert.KernelIdeal Cert.KernelIdeal.Gen
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

/-! ## What one grid point computes -/

/-- The first 1024 rows of the first layer's weights, the ones the dense features meet. -/
def topRows (w : Vec F S1088x1024 .f32) : Vec F S1024x1024 .f32 :=
  View.ld w (Rect.unit (s := S1088x1024) ![0, 0] S1024x1024.size inb_S1088x1024_S1024x1024_0_0)

/-- The last 128 rows, from row 960 on: what the 128 columns of a looked-up row meet. -/
def botRows (w : Vec F S1088x1024 .f32) : Vec F S128x1024 .f32 :=
  View.ld w (Rect.unit (s := S1088x1024) ![960, 0] S128x1024.size inb_S1088x1024_S128x1024_960_0)

/-- The block of results of one grid point, from its block of dense features, its block of looked-up rows and the
    weights and biases of the layers. -/
def mlpBlock (x : Vec F S1024x1024 .f32) (e : Vec F S1024x128 .f32) (w0 : Vec F S1088x1024 .f32) (b0 : Vec F S1x1024 .f32)
    (w1 : Vec F S1024x512 .f32) (b1 : Vec F S1x512 .f32) (w2 : Vec F S512x256 .f32) (b2 : Vec F S1x256 .f32)
    (w3 : Vec F S256x1 .f32) (b3 : Vec F S1x1 .f32) : Vec F S1x1024 .f32 :=
  k1_pay1 (k1_pay2 x (topRows w0) e (botRows w0) b0 w1 b1 w2 b2) w3 b3

theorem hz2 : (![0, 0] : Fin 2 → Nat) = fun _ => 0 := by decide +kernel

/-- What the body stores, written with the loads as it makes them: every load but those of the first layer's weights
    reads a whole buffer, and the store fills the result buffer, so what is left there is `mlpBlock`. -/
theorem stored_eq (x0 : Vec F S1024x1024 .f32) (x1 : Vec F S1024x128 .f32) (x2 : Vec F S1088x1024 .f32) (x3 : Vec F S1x1024 .f32)
    (x4 : Vec F S1024x512 .f32) (x5 : Vec F S1x512 .f32) (x6 : Vec F S512x256 .f32) (x7 : Vec F S1x256 .f32)
    (x8 : Vec F S256x1 .f32) (x9 : Vec F S1x1 .f32) :
    (View.canon [(⟨Rect.unit (s := S1x1024) ![0, 0] S1x1024.size inb_S1x1024_S1x1024_0_0,
        k1_pay1 (k1_pay2 (View.ld x0 (Rect.unit (s := S1024x1024) ![0, 0] S1024x1024.size inb_S1024x1024_S1024x1024_0_0))
            (topRows x2) (View.ld x1 (Rect.unit (s := S1024x128) ![0, 0] S1024x128.size inb_S1024x128_S1024x128_0_0)) (botRows x2)
            (View.ld x3 (Rect.unit (s := S1x1024) ![0, 0] S1x1024.size inb_S1x1024_S1x1024_0_0))
            (View.ld x4 (Rect.unit (s := S1024x512) ![0, 0] S1024x512.size inb_S1024x512_S1024x512_0_0))
            (View.ld x5 (Rect.unit (s := S1x512) ![0, 0] S1x512.size inb_S1x512_S1x512_0_0))
            (View.ld x6 (Rect.unit (s := S512x256) ![0, 0] S512x256.size inb_S512x256_S512x256_0_0))
            (View.ld x7 (Rect.unit (s := S1x256) ![0, 0] S1x256.size inb_S1x256_S1x256_0_0)))
          (View.ld x8 (Rect.unit (s := S256x1) ![0, 0] S256x1.size inb_S256x1_S256x1_0_0))
          (View.ld x9 (Rect.unit (s := S1x1) ![0, 0] S1x1.size inb_S1x1_S1x1_0_0))⟩ : View.Piece (Elt F) S1x1024 .f32)])
      = mlpBlock x0 x1 x2 x3 x4 x5 x6 x7 x8 x9 := by
  rw [View.canon_unit_zero (S := S1x1024) hz2, View.ld_unit_zero (S := S1024x1024) hz2, View.ld_unit_zero (S := S1024x128) hz2,
    View.ld_unit_zero (S := S1x1024) hz2, View.ld_unit_zero (S := S1024x512) hz2, View.ld_unit_zero (S := S1x512) hz2,
    View.ld_unit_zero (S := S512x256) hz2, View.ld_unit_zero (S := S1x256) hz2, View.ld_unit_zero (S := S256x1) hz2,
    View.ld_unit_zero (S := S1x1) hz2]
  rfl

set_option maxHeartbeats 1000000 in
/-- The printed body computes `mlpBlock`: handed ten whole buffers it reads and one it may overwrite, it hands back the
    ten as they were and the result buffer at `mlpBlock` of them. -/
theorem body_run (c : Dev nD) (E : Set ℕ) (i : grid1.Coords)
    (a0 : Memref sig .tc .vmem S1024x1024 .f32) (h0 : a0.IsWhole) (a1 : Memref sig .tc .vmem S1024x128 .f32) (h1 : a1.IsWhole)
    (a2 : Memref sig .tc .vmem S1088x1024 .f32) (h2 : a2.IsWhole) (a3 : Memref sig .tc .vmem S1x1024 .f32) (h3 : a3.IsWhole)
    (a4 : Memref sig .tc .vmem S1024x512 .f32) (h4 : a4.IsWhole) (a5 : Memref sig .tc .vmem S1x512 .f32) (h5 : a5.IsWhole)
    (a6 : Memref sig .tc .vmem S512x256 .f32) (h6 : a6.IsWhole) (a7 : Memref sig .tc .vmem S1x256 .f32) (h7 : a7.IsWhole)
    (a8 : Memref sig .tc .vmem S256x1 .f32) (h8 : a8.IsWhole) (a9 : Memref sig .tc .vmem S1x1 .f32) (h9 : a9.IsWhole)
    (a10 : Memref sig .tc .vmem S1x1024 .f32) (h10 : a10.IsWhole)
    (x0 : Vec F S1024x1024 .f32) (x1 : Vec F S1024x128 .f32) (x2 : Vec F S1088x1024 .f32) (x3 : Vec F S1x1024 .f32)
    (x4 : Vec F S1024x512 .f32) (x5 : Vec F S1x512 .f32) (x6 : Vec F S512x256 .f32) (x7 : Vec F S1x256 .f32)
    (x8 : Vec F S256x1 .f32) (x9 : Vec F S1x1 .f32) (k : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ owns (c : Thread nD τ) a6 fullShare x6 ∗ owns (c : Thread nD τ) a7 fullShare x7 ∗ owns (c : Thread nD τ) a8 fullShare x8
        ∗ owns (c : Thread nD τ) a9 fullShare x9 ∗ (∃ o, owns (c : Thread nD τ) a10 fullShare o)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ owns (c : Thread nD τ) a6 fullShare x6 ∗ owns (c : Thread nD τ) a7 fullShare x7 ∗ owns (c : Thread nD τ) a8 fullShare x8
            ∗ owns (c : Thread nD τ) a9 fullShare x9 ∗ owns (c : Thread nD τ) a10 fullShare (mlpBlock x0 x1 x2 x3 x4 x5 x6 x7 x8 x9)) -∗ k ⟨⟩))
      ⊢ wp frame (wpE (defs₀ (F := F)) 𝒱₀ (c : Thread nD τ) none) E
          (cc1__mlp_kernel i a0 h0 a1 h1 a2 h2 a3 h3 a4 h4 a5 h5 a6 h6 a7 h7 a8 h8 a9 h9 a10 h10) k := by
  simp only [cc1__mlp_kernel_eq_skeleton]; unfold cc1__mlp_kernel_skel
  simp only [k1_part1_eq_skeleton]; unfold k1_part1_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩,
    ⟨%f7, %e7, H7⟩, ⟨%f8, %e8, H8⟩, ⟨%f9, %e9, H9⟩, ⟨%o, %f10, -, H10⟩, Hk⟩
  subst e0 e1 e2 e3 e4 e5 e6 e7 e8 e9
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  isplitl [H9]; · iexists f9; isplitr; · ipureintro; rfl
                  iexact H9
  iexists _; isplitr
  swap; · iexact H10
  ipureintro
  exact (View.read_writes_eq_canon _ _ _ fun y => View.cover_of_tiled _ S1x1024.size (by rfl) y).trans
    (stored_eq _ _ _ _ _ _ _ _ _ _)

/-! ## The pipeline's proof data -/

section Data

variable (V : (c : Dev nD) → (b : Ref sig .tc) → Buf (Elt F) ((c : Thread nD τ).loc b))

/-- Window `w`'s block at point `t`, read off the array the pipeline finds. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What one grid point computes from the blocks of the arrays the pipeline finds. -/
def resultAt (c : Dev nD) (t : Fin cfg1.N) : Vec F S1x1024 .f32 :=
  mlpBlock (blockAt V c 0 t) (blockAt V c 1 t) (blockAt V c 2 t) (blockAt V c 3 t) (blockAt V c 4 t) (blockAt V c 5 t)
    (blockAt V c 6 t) (blockAt V c 7 t) (blockAt V c 8 t) (blockAt V c 9 t)

/-- The waits a TensorCore may have recorded once the one SparseCore call is over: those at level 8 and below. -/
def seen (c : Dev nD) : Set (SemLoc sig × HIx 1) := {p | (K (F := F)).lev (SparseCore.T c, p.1) p.2 ≤ 8}

/-- The pipeline's proof data: the arrays as found; after each point every input buffer at its block and the result
    buffer at what the point computes; no invariant besides, nothing owed, the arrays held whole. -/
def dat (c : Dev nD) : Dat τ (Elt F) (HIx 1) ℕ UU ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => blockAt V c 6 t
    | ⟨7, _⟩ => blockAt V c 7 t
    | ⟨8, _⟩ => blockAt V c 8 t
    | ⟨9, _⟩ => blockAt V c 9 t
    | ⟨10, _⟩ => resultAt V c t
  Φ _ := BI.emp
  q _ := fullShare
  owed _ := 0
  recorded _ := seen (F := F) c

theorem A_eq (c : Dev nD) (w : Fin cfg1.W) : (dat V c).A w = V c (Pipeline.arrRef spec1 w) := by
  dsimp only [dat]

/-- What a fetch of an input window puts in its buffer is what the body leaves there, at every point. -/
theorem kept_in (c : Dev nD) (w : Fin cfg1.W) (hw : w ≠ 10) (t : Fin cfg1.N) (d) : (dat V c).fetched w t d = (dat V c).after w t := by
  unfold Dat.fetched Dat.blockOf
  rw [A_eq]
  match w, hw with
  | ⟨0, _⟩, _ | ⟨1, _⟩, _ | ⟨2, _⟩, _ | ⟨3, _⟩, _ | ⟨4, _⟩, _ | ⟨5, _⟩, _ | ⟨6, _⟩, _ | ⟨7, _⟩, _ | ⟨8, _⟩, _ | ⟨9, _⟩, _ =>
    dsimp only [dat]; rfl
  | ⟨10, _⟩, hw => exact absurd rfl hw

/-- Every input window's buffer holds its block when the body runs, fetched at that point or kept from the one before. -/
theorem before_in (c : Dev nD) (w : Fin cfg1.W) (hw : w ≠ 10) (t : Fin cfg1.N) (d) : (dat V c).before w t d = (dat V c).after w t := by
  refine ((dat V c).before_in_eq_fetched w ?_ ?_ ?_ ?_ t d).trans (kept_in V c w hw t d)
  · exact (by decide : ∀ w : Fin 11, w ≠ 10 → (cfg1.win w).isOut = false) w hw
  · intro _; rfl
  · match w, hw with
    | ⟨0, _⟩, _ | ⟨1, _⟩, _ | ⟨2, _⟩, _ | ⟨3, _⟩, _ | ⟨4, _⟩, _ | ⟨5, _⟩, _ | ⟨6, _⟩, _ | ⟨7, _⟩, _ | ⟨8, _⟩, _ | ⟨9, _⟩, _ =>
      exact fun _ _ _ => rfl
    | ⟨10, _⟩, hw => exact absurd rfl hw
  · intro t
    unfold Dat.blockOf
    rw [A_eq]
    match w, hw with
    | ⟨0, _⟩, _ | ⟨1, _⟩, _ | ⟨2, _⟩, _ | ⟨3, _⟩, _ | ⟨4, _⟩, _ | ⟨5, _⟩, _ | ⟨6, _⟩, _ | ⟨7, _⟩, _ | ⟨8, _⟩, _ | ⟨9, _⟩, _ =>
      dsimp only [dat]; rfl
    | ⟨10, _⟩, hw => exact absurd rfl hw

/-- The body table's entry at point `t` is the body on that point's buffers. -/
theorem defs₀_row (t : Fin cfg1.N) : defs₀ (F := F) .tc cfg1.body (cfg1.bodyArgs t (cfg1.slots t)) = bodyAt1 t := rfl

/-- A window's buffer before the body runs at point `t`, -/
abbrev held (c : Dev nD) (t : Fin cfg1.N) (w : Fin cfg1.W) : sProp 𝕄 :=
  iprop(∃ d, owns (c : Thread nD τ) ((cfg1.win w).stage (cfg1.slots t w)) fullShare ((dat V c).before w t d))
/-- and after. -/
abbrev left (c : Dev nD) (t : Fin cfg1.N) (w : Fin cfg1.W) : sProp 𝕄 :=
  owns (c : Thread nD τ) ((cfg1.win w).stage (cfg1.slots t w)) fullShare ((dat V c).after w t)

/-- An input window's buffer is before the body what it is after. -/
theorem held_left (c : Dev nD) (t : Fin cfg1.N) (w : Fin cfg1.W) (hw : w ≠ 10) : held V c t w ⊢ left V c t w := by
  iintro ⟨%d, H⟩
  rw [before_in V c w hw t d]
  iexact H

/-- The body at any grid point: from every window's buffer as the pipeline hands it over, to every window's buffer as the
    proof data says it is left; what the core owes passes by. -/
theorem body_at (c : Dev nD) (t : Fin cfg1.N) :
    iprop((dat V c).Φ t.castSucc ∗ (dat V c).owesAt none t.castSucc
        ∗ held V c t 0 ∗ held V c t 1 ∗ held V c t 2 ∗ held V c t 3 ∗ held V c t 4 ∗ held V c t 5 ∗ held V c t 6
        ∗ held V c t 7 ∗ held V c t 8 ∗ held V c t 9 ∗ held V c t 10)
      ⊢ wp frame (wpE (defs₀ (F := F)) 𝒱₀ (c : Thread nD τ) none) Set.univ (bodyAt1 t) fun _ =>
        iprop((dat V c).Φ t.succ ∗ (dat V c).owesAt none t.succ
          ∗ left V c t 0 ∗ left V c t 1 ∗ left V c t 2 ∗ left V c t 3 ∗ left V c t 4 ∗ left V c t 5 ∗ left V c t 6
          ∗ left V c t 7 ∗ left V c t 8 ∗ left V c t 9 ∗ left V c t 10) := by
  rw [show (dat V c).Φ t.succ = (dat V c).Φ t.castSucc from rfl,
    show (dat V c).owesAt none t.succ = (dat V c).owesAt none t.castSucc from rfl]
  iintro ⟨HΦ, Ho, H0, H1, H2, H3, H4, H5, H6, H7, H8, H9, %d, H10⟩
  ihave H0 := held_left V c t 0 (by decide) $$ H0
  ihave H1 := held_left V c t 1 (by decide) $$ H1
  ihave H2 := held_left V c t 2 (by decide) $$ H2
  ihave H3 := held_left V c t 3 (by decide) $$ H3
  ihave H4 := held_left V c t 4 (by decide) $$ H4
  ihave H5 := held_left V c t 5 (by decide) $$ H5
  ihave H6 := held_left V c t 6 (by decide) $$ H6
  ihave H7 := held_left V c t 7 (by decide) $$ H7
  ihave H8 := held_left V c t 8 (by decide) $$ H8
  ihave H9 := held_left V c t 9 (by decide) $$ H9
  iapply (body_run c Set.univ (grid1.coords t) _ _ _ _ _ _ _ _ _ _ _ _ _ _ _ _ _ _ _ _ _ _ (blockAt V c 0 t) (blockAt V c 1 t)
    (blockAt V c 2 t) (blockAt V c 3 t) (blockAt V c 4 t) (blockAt V c 5 t) (blockAt V c 6 t) (blockAt V c 7 t)
    (blockAt V c 8 t) (blockAt V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro H
  isplitl [HΦ]; · iexact HΦ
  isplitl [Ho]; · iexact Ho
  iexact H

/-- The pipeline library's body obligation. -/
theorem body_obligation (c : Dev nD) : Pipeline.BodyObligation (dat V c) (defs₀ (F := F)) 𝒱₀ none Set.univ := fun t => by
  rw [bigSep_W1, bigSep_W1, defs₀_row]
  exact triple_restated (body_at V c t) rfl .rfl fun _ => .rfl

/-! ## What the result array holds at the end -/

/-- Rows `1024 t` to `1024 t + 1023` of a matrix of 4096 rows. -/
def rowsAt {n : ℕ} (A : Vec F ⟨2, ![4096, n]⟩ .f32) (t : Fin 4) : Vec F ⟨2, ![1024, n]⟩ .f32 := fun j =>
  A (ValueIdx.ix2 ⟨1024 * t.val + (j 0).val, by have h : (j 0).val < 1024 := (j 0).isLt; omega⟩ ⟨(j 1).val, (j 1).isLt⟩)

/-- The result array, from whole arrays: entry `r` is entry `r % 1024` of the block of results of grid point `r / 1024`. -/
def mlpArr (X : Vec F S4096x1024 .f32) (E : Vec F S4096x128 .f32) (w0 : Vec F S1088x1024 .f32) (b0 : Vec F S1x1024 .f32)
    (w1 : Vec F S1024x512 .f32) (b1 : Vec F S1x512 .f32) (w2 : Vec F S512x256 .f32) (b2 : Vec F S1x256 .f32)
    (w3 : Vec F S256x1 .f32) (b3 : Vec F S1x1 .f32) : Vec F S1x4096 .f32 := fun i =>
  have h : (i 1).val < 4096 := (i 1).isLt
  mlpBlock (rowsAt X ⟨(i 1).val / 1024, by omega⟩) (rowsAt E ⟨(i 1).val / 1024, by omega⟩) w0 b0 w1 b1 w2 b2 w3 b3
    (ValueIdx.ix2 0 ⟨(i 1).val % 1024, by omega⟩)

/-- The result array from the arrays the pipeline finds. -/
abbrev mlpOf (c : Dev nD) : Vec F S1x4096 .f32 :=
  mlpArr (V c main_arg0) (V c main_v1) (V c main_arg3) (V c main_v2) (V c main_arg5) (V c main_v3) (V c main_arg7) (V c main_v4)
    (V c main_arg9) (V c main_v5)

/-- The block indices: the three blocked windows move with the grid point, -/
theorem index_moves : ∀ t : Fin grid1.N, win1_0.index t = ![t.val, 0] ∧ win1_1.index t = ![t.val, 0] ∧ win1_10.index t = ![0, t.val] := by
  decide +kernel
/-- the others stay. -/
theorem index_stays : ∀ t : Fin grid1.N, win1_2.index t = ![0, 0] ∧ win1_3.index t = ![0, 0] ∧ win1_4.index t = ![0, 0]
    ∧ win1_5.index t = ![0, 0] ∧ win1_6.index t = ![0, 0] ∧ win1_7.index t = ![0, 0] ∧ win1_8.index t = ![0, 0] ∧ win1_9.index t = ![0, 0] := by
  decide +kernel

/-- A block at block index zero is read off the array from its first element on. -/
theorem starts_at_zero {v : Fin 2 → ℕ} (h : v = ![0, 0]) (a : Fin 2) (n k : ℕ) : v a * n + 1 * k = k := by
  subst h
  have h0 : (![0, 0] : Fin 2 → ℕ) a = 0 := by revert a; decide
  rw [h0]; omega

/-- The blocks of the windows that stay are the whole arrays. -/
theorem blocks_stay (c : Dev nD) (t : Fin cfg1.N) :
    blockAt V c 2 t = V c main_arg3 ∧ blockAt V c 3 t = V c main_v2 ∧ blockAt V c 4 t = V c main_arg5 ∧ blockAt V c 5 t = V c main_v3
      ∧ blockAt V c 6 t = V c main_arg7 ∧ blockAt V c 7 t = V c main_v4 ∧ blockAt V c 8 t = V c main_arg9 ∧ blockAt V c 9 t = V c main_v5 := by
  obtain ⟨i2, i3, i4, i5, i6, i7, i8, i9⟩ := index_stays t
  exact ⟨funext fun j => congrArg (V c main_arg3) (funext fun a => Fin.ext (starts_at_zero i2 a _ _)),
    funext fun j => congrArg (V c main_v2) (funext fun a => Fin.ext (starts_at_zero i3 a _ _)),
    funext fun j => congrArg (V c main_arg5) (funext fun a => Fin.ext (starts_at_zero i4 a _ _)),
    funext fun j => congrArg (V c main_v3) (funext fun a => Fin.ext (starts_at_zero i5 a _ _)),
    funext fun j => congrArg (V c main_arg7) (funext fun a => Fin.ext (starts_at_zero i6 a _ _)),
    funext fun j => congrArg (V c main_v4) (funext fun a => Fin.ext (starts_at_zero i7 a _ _)),
    funext fun j => congrArg (V c main_arg9) (funext fun a => Fin.ext (starts_at_zero i8 a _ _)),
    funext fun j => congrArg (V c main_v5) (funext fun a => Fin.ext (starts_at_zero i9 a _ _))⟩

/-- The block of dense features at point `t` is rows `1024 t` and on of the features. -/
theorem block_x (c : Dev nD) (t : Fin cfg1.N) : blockAt V c 0 t = rowsAt (V c main_arg0) (t.cast N_1) := by
  funext j
  refine congrArg (V c main_arg0) (funext fun a => Fin.ext ?_)
  show win1_0.index t a * S1024x1024.size a + 1 * (j a).val = _
  rw [(index_moves t).1]
  match a with
  | ⟨0, _⟩ => show t.val * 1024 + 1 * (j 0).val = 1024 * t.val + (j 0).val; omega
  | ⟨1, _⟩ => show 0 * 1024 + 1 * (j 1).val = (j 1).val; omega

/-- The block of looked-up rows at point `t` is rows `1024 t` and on of the lookup. -/
theorem block_e (c : Dev nD) (t : Fin cfg1.N) : blockAt V c 1 t = rowsAt (V c main_v1) (t.cast N_1) := by
  funext j
  refine congrArg (V c main_v1) (funext fun a => Fin.ext ?_)
  show win1_1.index t a * S1024x128.size a + 1 * (j a).val = _
  rw [(index_moves t).2.1]
  match a with
  | ⟨0, _⟩ => show t.val * 1024 + 1 * (j 0).val = 1024 * t.val + (j 0).val; omega
  | ⟨1, _⟩ => show 0 * 128 + 1 * (j 1).val = (j 1).val; omega

/-- Column `j` of the result block at point `t` is column `1024 t + j` of the result array. -/
theorem emb_out (t : Fin cfg1.N) (j : S1x1024.Idx) : ((win1_10.rect t).emb j (1 : Fin 2)).val = 1024 * t.val + (j 1).val := by
  rw [Rect.emb_apply]
  show win1_10.index t (1 : Fin 2) * 1024 + 1 * (j 1).val = _
  rw [(index_moves t).2.2]
  show t.val * 1024 + 1 * (j 1).val = _
  omega

/-- What point `t` writes back is its block of `mlpOf`. -/
theorem flushed_out (c : Dev nD) (t : Fin cfg1.N) :
    (dat V c).flushed 10 t = ((cfg1.win 10).blk t).view.read (Elt F) (mlpOf V c) := by
  obtain ⟨e2, e3, e4, e5, e6, e7, e8, e9⟩ := blocks_stay V c t
  funext j
  show resultAt V c t j = mlpOf V c ((win1_10.rect t).emb j)
  have ht : t.val < 4 := by exact lt_of_lt_of_eq t.isLt N_1
  have hj : (j 1).val < 1024 := (j 1).isLt
  have hj0 : (j 0).val < 1 := (j 0).isLt
  have he := emb_out t j
  have hq : (⟨((win1_10.rect t).emb j (1 : Fin 2)).val / 1024, by rw [he]; omega⟩ : Fin 4) = t.cast N_1 :=
    Fin.ext (show _ / 1024 = t.val by rw [he]; omega)
  have hr : (ValueIdx.ix2 0 ⟨((win1_10.rect t).emb j (1 : Fin 2)).val % 1024, by omega⟩ : S1x1024.Idx) = j := by
    funext a
    match a with
    | ⟨0, _⟩ => exact Fin.ext (show 0 = (j 0).val by omega)
    | ⟨1, _⟩ => exact Fin.ext (show _ % 1024 = (j 1).val by rw [he]; omega)
  unfold resultAt mlpOf mlpArr
  rw [e2, e3, e4, e5, e6, e7, e8, e9, block_x, block_e]
  show _ = mlpBlock (rowsAt _ ⟨((win1_10.rect t).emb j (1 : Fin 2)).val / 1024, _⟩) (rowsAt _ ⟨((win1_10.rect t).emb j (1 : Fin 2)).val / 1024, _⟩)
    _ _ _ _ _ _ _ _ (ValueIdx.ix2 0 ⟨((win1_10.rect t).emb j (1 : Fin 2)).val % 1024, _⟩)
  rw [hq, hr]

/-- Every entry of the result array lies in the block of some point. -/
theorem cover_out (i : S1x4096.Idx) : ∃ t : Fin cfg1.N, (cfg1.win 10).flush t = true ∧ i ∈ ((cfg1.win 10).blk t).view.set := by
  have hi : (i 1).val < 4096 := (i 1).isLt
  have hi0 : (i 0).val < 1 := (i 0).isLt
  let t : Fin cfg1.N := ⟨(i 1).val / 1024, lt_of_lt_of_eq (by omega) N_1.symm⟩
  refine ⟨t, flush1_10 t, ?_⟩
  have hmem : (win1_10.rect t).emb (ValueIdx.ix2 0 ⟨(i 1).val % 1024, by omega⟩ : S1x1024.Idx) = i := by
    funext a
    match a with
    | ⟨0, _⟩ =>
      refine Fin.ext ?_
      have : ((win1_10.rect t).emb (ValueIdx.ix2 0 ⟨(i 1).val % 1024, by omega⟩ : S1x1024.Idx) (0 : Fin 2)).val < 1 := Fin.isLt _
      show ((win1_10.rect t).emb _ (0 : Fin 2)).val = (i 0).val
      omega
    | ⟨1, _⟩ =>
      refine Fin.ext ((emb_out t _).trans ?_)
      show 1024 * ((i 1).val / 1024) + (i 1).val % 1024 = (i 1).val
      omega
  rw [← hmem]
  exact ((cfg1.win 10).blk t).view.emb_mem_set _

/-- The result array after the last point: `mlpOf`. -/
theorem arrAt_out (c : Dev nD) : (dat V c).arrAt 10 cfg1.N = mlpOf V c :=
  (dat V c).arrAt_eq_of_cover 10 (mlpOf V c) (fun t _ => flushed_out V c t) cover_out

/-- Every other window's array is as found. -/
theorem arrAt_input (c : Dev nD) (w : Fin cfg1.W) (hw : w ≠ 10) : (dat V c).arrAt w cfg1.N = V c (Pipeline.arrRef spec1 w) :=
  ((dat V c).arrAt_in w ((by decide : ∀ w : Fin 11, w ≠ 10 → (cfg1.win w).isOut = false) w hw) _).trans (A_eq V c w)

end Data

end Cert.Proof.Lookup
-- ==== Proof.Region.lean ====
/-
  The TensorCore kernel's call in @main: what it is entered with, what it leaves.

  @main holds the eleven arrays of the pipeline whole; the call hands ten of them back as they were and the result
  array at `mlpOf`.
-/
module

public import proofs.«01_k».proof.Proof.Mlp

@[expose] public section

set_option maxRecDepth 16384

noncomputable section

namespace Cert.Proof.Lookup

open Cert.KernelIdeal Cert.KernelIdeal.Gen
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

/-- The pipeline has no prefetched table, so nothing is asked of one. -/
abbrev adm : (p : Fin 1) → (pcfgs (F := F) p).Adm := fun p => (cfgs p).toPCfg_adm

/-- A reference of @main as a buffer of the device. -/
abbrev dr (b : Ref sig .tc) : DevRef τ sig := Proc.devRef .tc b

variable (V : Dev nD → Valuation τ sig (Elt F))

/-- What the device holds, read at @main's references. -/
abbrev atRefs (c : Dev nD) (b : Ref sig .tc) : Buf (Elt F) ((c : Thread nD τ).loc b) := V c (dr b)

/-- The proof data of the one pipeline. -/
def pdats (p : Fin 1) (c : Dev nD) : Dat τ (Elt F) (HIx 1) ℕ UU ℕ (Pipeline.pin (pcfgs (F := F)) adm p) c :=
  match p with | 0 => dat (atRefs V) c

/-- What the result array holds after the call. -/
abbrev mlpAt (c : Dev nD) : Vec F S1x4096 .f32 := mlpOf (atRefs V) c

/-- What the device holds after the call: the result array written, the rest as it was. -/
def afterMlp (c : Dev nD) : Valuation τ sig (Elt F) := Function.update (V c) (dr main_v6) (mlpAt V c)

theorem afterMlp_out (c : Dev nD) : afterMlp V c (dr main_v6) = mlpAt V c := Function.update_self ..
theorem afterMlp_ne (c : Dev nD) (b : Ref sig .tc) (h : b ≠ main_v6) : afterMlp V c (dr b) = V c (dr b) :=
  Function.update_of_ne (StableHlo.devRef_ne_of_ne h) ..

/-- The eleven arrays of the pipeline. -/
abbrev mlpBufs : Finset (DevRef τ sig) := Finset.univ.image fun w : Fin cfg1.W => dr (Pipeline.arrRef spec1 w)

/-- The arrays are different buffers. -/
theorem arr_inj : Function.Injective fun w : Fin cfg1.W => (dr (Pipeline.arrRef spec1 w) : DevRef τ sig) := fun a b h =>
  (by decide : Function.Injective fun w : Fin 11 => Pipeline.arrRef spec1 w) (Proc.devRef_injective _ h)

/-- The pipeline's arrays at contents `G` are the eleven buffers held at a valuation that reads so. -/
theorem arrays_held (c : Dev nD) (W : Valuation τ sig (Elt F))
    (G : (w : Fin cfg1.W) → Buf (Elt F) ((cfg1.win w).arr.view.loc (c : Thread nD τ)))
    (h : ∀ w, G w = W (dr (Pipeline.arrRef spec1 w))) :
    (pdats V 0 c).arrays G = (StableHlo.held (c : Thread nD τ) mlpBufs W : sProp 𝕄) := by
  refine (Pipeline.arrays_eq (Pipeline.pin (pcfgs (F := F)) adm) (pdats V) 0 c arr_whole1
    ((pdats V 0 c).share_full fun _ => rfl) G).trans ?_
  unfold StableHlo.held mlpBufs
  rw [show (Finset.univ.image fun w : Fin cfg1.W => (dr (Pipeline.arrRef spec1 w) : DevRef τ sig))
      = Finset.univ.map ⟨fun w : Fin cfg1.W => dr (Pipeline.arrRef spec1 w), arr_inj⟩ from (Finset.map_eq_image ⟨_, arr_inj⟩ _).symm, bigSep_map]
  exact bigSep_congr fun w _ => by rw [h w]; rfl

/-- No table is prefetched. -/
theorem no_tables (c : Dev nD) (q) (pf) :
    (Pipeline.prefHeld (Ix := HIx 1) (Name := ℕ) (U := UU) (Lvl := ℕ) (Val := Elt F) (pcfgs (F := F) 0).pre c q pf : sProp 𝕄) = BI.emp :=
  bigSep_univ_eq_bigSepL [] rfl List.nodup_nil _

/-- What the TensorCore owes between the calls: nothing, its waits recorded at level 8 and below. -/
abbrev owesLow (c : Dev nD) : sProp 𝕄 :=
  iprop(∃ W, ⌜(K (F := F)).WBelow (SparseCore.T c) W 8⌝ ∗ owes (c : Thread nD τ) (0 : CellTallies nD τ sig (HIx 1)) W)

theorem owes_in (c : Dev nD) (t : Fin (cfg1.N + 1)) : owesLow (F := F) c ⊢ (dat (atRefs V) c).owesAt none t := by
  unfold Pipeline.Dat.owesAt Pipeline.owesWithin Pipeline.Dat.bound
  iintro ⟨%W, %hW, HO⟩; iexists W; isplitr
  · ipureintro; exact fun p hp => Or.inl (hW p hp)
  iexact HO
theorem owes_out (c : Dev nD) (t : Fin (cfg1.N + 1)) : (dat (atRefs V) c).owesAt none t ⊢ owesLow (F := F) c := by
  unfold Pipeline.Dat.owesAt Pipeline.owesWithin Pipeline.Dat.bound
  iintro ⟨%W, %hW, HO⟩; iexists W; isplitr
  · ipureintro
    intro p hp
    rcases hW hp with h | ⟨w, s, rfl⟩
    · exact h
    · exact Nat.zero_le _
  iexact HO

/-- The call: entered with the eleven arrays at what the device holds, left with them at `afterMlp`. -/
def region : Pipeline.RegionSeg (pcfgs (F := F)) adm (pdats V) none (defs₀ (F := F)) 𝒱₀ (K (F := F)).L (K (F := F)).lev 0 where
  win := launch1.win.to₀
  block_pos := block_pos1
  stage_whole := stage_whole1
  K := PEmpty
  osem k := k.elim
  ho := Pipeline.OwnSemFacts.none _
  hbody c := (body_obligation (atRefs V) c).loose
  hwaits := Pipeline.hwaits_of_owed_zero _ _ _ _ (K (F := F)).L (K (F := F)).lev 0 fun _ _ => rfl
  pre c := iprop(StableHlo.held (c : Thread nD τ) mlpBufs (V c) ∗ owesLow c)
  post c := iprop(StableHlo.held (c : Thread nD τ) mlpBufs (afterMlp V c) ∗ owesLow c)
  X _ := iprop(emp)
  Y _ := iprop(emp)
  Z _ := iprop(emp)
  hentry c := by
    rw [Pipeline.ownSems0_none, no_tables, arrays_held V c (V c) (fun w => (pdats V 0 c).arrAt w 0) fun w => A_eq (atRefs V) c w]
    iintro ⟨⟨Hh, HO⟩, -, -⟩
    imodintro
    isplitl [Hh]; · iexact Hh
    isplitr; · iempintro
    isplitl [HO]; · iapply (owes_in V c 0); iexact HO
    isplitr <;> iempintro
  hin c := by
    rw [show (pdats V 0 c).Φ 0 = BI.emp from rfl]
    iintro -; iempintro
  hout c := by
    rw [Pipeline.ownSems0_none, show Pipeline.scopedRest (Pipeline.pin (pcfgs (F := F)) adm 0).spec c = (BI.emp : sProp 𝕄) from scopedRest1_eq c]
    iintro -
    isplitr; · iempintro
    isplitr <;> iempintro
  hexit c := by
    rw [arrays_held V c (afterMlp V c) _ fun w => (by
      by_cases hw : w = 10
      · subst hw; exact (arrAt_out (atRefs V) c).trans (afterMlp_out V c).symm
      · exact (arrAt_input (atRefs V) c w hw).trans
          (afterMlp_ne V c _ ((by decide : ∀ w : Fin 11, w ≠ 10 → Pipeline.arrRef spec1 w ≠ main_v6) w hw)).symm)]
    iintro ⟨Hh, HO, -, -⟩
    imodintro
    isplitl [Hh]; · iexact Hh
    iapply (owes_out V c _); iexact HO

end Cert.Proof.Lookup

end
-- ==== Proof.Main.lean ====
/-
  The whole program's run: @main on the TensorCore, around the SparseCore call and the TensorCore kernel.

  @main pads the table, has the SparseCores look the rows up, reshapes the four biases to rows, has the TensorCore
  kernel compute the perceptron, and reshapes its row of results. What the device holds is followed step by step
  (`V₁` to `V₅`); `run_main` is the run, with the result and the arguments at the end.
-/
module

public import proofs.«01_k».proof.Proof.Tile
public import proofs.«01_k».proof.Proof.Region
public import Idealize.ShloMosaic.Lib.Pipeline.Frame

@[expose] public section

set_option maxRecDepth 16384

noncomputable section

namespace Cert.Proof.Lookup

open Cert.KernelIdeal Cert.KernelIdeal.Gen
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The straight lines of @main -/

/-- Before the SparseCore call: the zero, and the table padded on the left by 64 columns of it. -/
def opsPad : List (HloOp τ sig (Elt F)) :=
  [StableHlo.nullary main_c (constantI S_ 32 0#32),
    StableHlo.TRef.unary (.of main_c) main_call0.v0 (sitofp .f32),
    StableHlo.TRef.binary (.of main_arg2 : StableHlo.TRef sig ⟨S1000x64, .f32⟩) main_call0.v0 main_call0.v1
      (fun x v => pad S1000x128 ![0, 64] ![0, 0] ![0, 0] x v pads_S1000x64_S1000x128_000_6400 h_S_)]

/-- Between the calls: each bias as a row. -/
def opsRows : List (HloOp τ sig (Elt F)) :=
  [StableHlo.reshape main_arg4 main_v2 (rfl : (.f32 : EltTy) = .f32) shapeCasts_S1024_S1x1024,
    StableHlo.reshape main_arg6 main_v3 (rfl : (.f32 : EltTy) = .f32) shapeCasts_S512_S1x512,
    StableHlo.reshape main_arg8 main_v4 (rfl : (.f32 : EltTy) = .f32) shapeCasts_S256_S1x256,
    StableHlo.reshape main_arg10 main_v5 (rfl : (.f32 : EltTy) = .f32) shapeCasts_S1_S1x1]

/-- At the end: the row of results as a vector. -/
def opsEnd : List (HloOp τ sig (Elt F)) :=
  [StableHlo.reshape main_v6 main_v7 (rfl : (.f32 : EltTy) = .f32) shapeCasts_S1x4096_S4096]

/-- @main is those lines around the two calls. -/
theorem main_eq (d : Dev nD) : main (F := F) d
    = (StableHlo.seq opsPad >>= fun _ => (K (F := F)).run d 0 >>= fun _ => StableHlo.seq opsRows >>= fun _ =>
        SparseCore.liftProg (.op (.customCall (Pipeline.entry 0) ()) .ret) >>= fun _ => StableHlo.seq opsEnd >>= fun u => pure u) := by
  rfl

/-! ## What the device holds, step by step -/

section Steps

variable (m : (ℓ : Loc nD τ sig) → Buf (Elt F) ℓ)

/-- After the padding; -/
def V₁ (d : Dev nD) : Valuation τ sig (Elt F) := StableHlo.after opsPad (StableHlo.launchContents m d)
/-- after the lookup; -/
def V₂ (d : Dev nD) : Valuation τ sig (Elt F) :=
  Function.update (V₁ m d) (dr main_v1) (gathered (V₁ m d (dr main_v0)) (V₁ m d (dr main_arg1)))
/-- after the reshapes of the biases; -/
def V₃ (d : Dev nD) : Valuation τ sig (Elt F) := StableHlo.after opsRows (V₂ m d)
/-- after the perceptron; -/
def V₄ (d : Dev nD) : Valuation τ sig (Elt F) := afterMlp (V₃ m) d
/-- at the end. -/
def V₅ (d : Dev nD) : Valuation τ sig (Elt F) := StableHlo.after opsEnd (V₄ m d)

/-- The table padded, from the table. -/
def padded (t : Vec F S1000x64 .f32) : Vec F S1000x128 .f32 :=
  pad S1000x128 ![0, 64] ![0, 0] ![0, 0] t (sitofp .f32 (constantI S_ 32 0#32)) pads_S1000x64_S1000x128_000_6400 h_S_

/-- The program's result from its arguments. -/
def outOf (x : Vec F S4096x1024 .f32) (y : S4096.Idx → BitVec 32) (t : Vec F S1000x64 .f32) (w0 : Vec F S1088x1024 .f32)
    (b0 : Vec F S1024 .f32) (w1 : Vec F S1024x512 .f32) (b1 : Vec F S512 .f32) (w2 : Vec F S512x256 .f32) (b2 : Vec F S256 .f32)
    (w3 : Vec F S256x1 .f32) (b3 : Vec F S1 .f32) : Vec F S4096 .f32 :=
  shapeCast S4096 (mlpArr x (gathered (padded t) y) w0 (shapeCast S1x1024 b0 shapeCasts_S1024_S1x1024) w1
    (shapeCast S1x512 b1 shapeCasts_S512_S1x512) w2 (shapeCast S1x256 b2 shapeCasts_S256_S1x256) w3
    (shapeCast S1x1 b3 shapeCasts_S1_S1x1)) shapeCasts_S1x4096_S4096

/-- A buffer the padding does not write; -/
theorem V₁_ne (d : Dev nD) (b : Ref sig .tc) (h : b ∉ [main_c, main_call0_v0, main_v0]) : V₁ m d (dr b) = m ((d : Thread nD τ).loc b) :=
  StableHlo.after_of_writes_sub opsPad _ (StableHlo.forall_writes_sub_of_map rfl) h
/-- one the lookup does not; -/
theorem V₂_ne (d : Dev nD) (b : Ref sig .tc) (h : b ≠ main_v1) : V₂ m d (dr b) = V₁ m d (dr b) :=
  Function.update_of_ne (StableHlo.devRef_ne_of_ne h) ..
/-- one the reshapes do not; -/
theorem V₃_ne (d : Dev nD) (b : Ref sig .tc) (h : b ∉ [main_v2, main_v3, main_v4, main_v5]) : V₃ m d (dr b) = V₂ m d (dr b) :=
  StableHlo.after_of_writes_sub opsRows _ (StableHlo.forall_writes_sub_of_map rfl) h
/-- one the last reshape does not. -/
theorem V₅_ne (d : Dev nD) (b : Ref sig .tc) (h : b ∉ [main_v7]) : V₅ m d (dr b) = V₄ m d (dr b) :=
  StableHlo.after_of_writes_sub opsEnd _ (StableHlo.forall_writes_sub_of_map rfl) h

/-- The buffers the program writes. -/
abbrev written : List (Ref sig .tc) := [main_c, main_call0_v0, main_v0, main_v1, main_v2, main_v3, main_v4, main_v5, main_v6, main_v7]

/-- A buffer the program does not write holds at the kernel's call what it held at launch, -/
theorem V₃_kept (d : Dev nD) (b : Ref sig .tc) (h : b ∉ written) : V₃ m d (dr b) = m ((d : Thread nD τ).loc b) := by
  simp only [written, List.mem_cons, List.not_mem_nil, or_false, not_or] at h
  rw [V₃_ne m d b (by simp [h]), V₂_ne m d b (by simp [h]), V₁_ne m d b (by simp [h])]
/-- and at the end. -/
theorem V₅_kept (d : Dev nD) (b : Ref sig .tc) (h : b ∉ written) : V₅ m d (dr b) = m ((d : Thread nD τ).loc b) := by
  have h' := h
  simp only [written, List.mem_cons, List.not_mem_nil, or_false, not_or] at h'
  rw [V₅_ne m d b (by simp [h']), V₄, afterMlp_ne _ d b (by simp [h']), V₃_kept m d b h]

/-- The padded table. -/
theorem V₁_pad (d : Dev nD) : V₁ m d (dr main_v0) = padded (m ((d : Thread nD τ).loc main_arg2)) := by
  unfold V₁ padded
  simp only [opsPad, StableHlo.TRef.binary, StableHlo.TRef.unary, StableHlo.TRef.toBuf, StableHlo.TRef.ofBuf, cast_eq]
  after_results_simp <;> rfl

/-- The rows looked up, at the kernel's call. -/
theorem V₃_rows (d : Dev nD) : V₃ m d (dr main_v1)
    = gathered (padded (m ((d : Thread nD τ).loc main_arg2))) (m ((d : Thread nD τ).loc main_arg1)) := by
  rw [V₃_ne m d main_v1 (by decide), V₂, Function.update_self, V₁_pad, V₁_ne m d main_arg1 (by decide)]

/-- The biases as rows, at the kernel's call. -/
theorem V₃_biases (d : Dev nD) :
    V₃ m d (dr main_v2) = shapeCast S1x1024 (m ((d : Thread nD τ).loc main_arg4)) shapeCasts_S1024_S1x1024
      ∧ V₃ m d (dr main_v3) = shapeCast S1x512 (m ((d : Thread nD τ).loc main_arg6)) shapeCasts_S512_S1x512
      ∧ V₃ m d (dr main_v4) = shapeCast S1x256 (m ((d : Thread nD τ).loc main_arg8)) shapeCasts_S256_S1x256
      ∧ V₃ m d (dr main_v5) = shapeCast S1x1 (m ((d : Thread nD τ).loc main_arg10)) shapeCasts_S1_S1x1 := by
  have e (b : Ref sig .tc) (h : b ∉ written) : V₂ m d (dr b) = m ((d : Thread nD τ).loc b) := by
    simp only [written, List.mem_cons, List.not_mem_nil, or_false, not_or] at h
    rw [V₂_ne m d b (by simp [h]), V₁_ne m d b (by simp [h])]
  rw [← e main_arg4 (by decide), ← e main_arg6 (by decide), ← e main_arg8 (by decide), ← e main_arg10 (by decide)]
  unfold V₃ opsRows
  refine ⟨?_, ?_, ?_, ?_⟩ <;> (after_results_simp <;> rfl)

/-- The result, at the end. -/
theorem V₅_out (d : Dev nD) : V₅ m d (dr main_v7)
    = outOf (m ((d : Thread nD τ).loc main_arg0)) (m ((d : Thread nD τ).loc main_arg1)) (m ((d : Thread nD τ).loc main_arg2))
        (m ((d : Thread nD τ).loc main_arg3)) (m ((d : Thread nD τ).loc main_arg4)) (m ((d : Thread nD τ).loc main_arg5))
        (m ((d : Thread nD τ).loc main_arg6)) (m ((d : Thread nD τ).loc main_arg7)) (m ((d : Thread nD τ).loc main_arg8))
        (m ((d : Thread nD τ).loc main_arg9)) (m ((d : Thread nD τ).loc main_arg10)) := by
  have h : V₅ m d (dr main_v7) = shapeCast S4096 (V₄ m d (dr main_v6)) shapeCasts_S1x4096_S4096 := by
    unfold V₅ opsEnd; after_results_simp <;> rfl
  obtain ⟨e2, e3, e4, e5⟩ := V₃_biases m d
  rw [h, V₄, afterMlp_out]
  unfold outOf mlpAt mlpOf atRefs
  rw [V₃_rows, e2, e3, e4, e5, V₃_kept m d main_arg0 (by decide), V₃_kept m d main_arg3 (by decide), V₃_kept m d main_arg5 (by decide),
    V₃_kept m d main_arg7 (by decide), V₃_kept m d main_arg9 (by decide)]

/-! ## The launch element of the ghost state -/

/-- The pipeline as @main's calls name it, its staging cells distinct. -/
abbrev pins : Fin 1 → Pipeline.Cfg sig Λ₀ := Pipeline.pin (pcfgs (F := F)) adm
theorem pins_inj : Function.Injective (Pipeline.cellOf (nD := nD) (τ := τ) (pins (F := F))) := cellOf_inj

/-- The handshakes' rounds, the pipeline's rounds, and no counter yet. -/
def u₀ : UU := (initOf (K (F := F)).hsCells (K (F := F)).hsToks,
  (initOf (Pipeline.cells (pins (F := F)) pins_inj) (Pipeline.launchToks (pins (F := F)) pins_inj), 1))

/-- What a device's TensorCore takes of the pipeline's ghost state. -/
abbrev ghost (d : Dev nD) : sProp 𝕄 :=
  iprop(Pipeline.cellsGhost (pins (F := F)) EP 0 d ∗ Pipeline.toksInit (pins (F := F)) EP 0 d)

/-- The arrays of the lookup: the padded table, the row numbers, what the result array held. -/
abbrev pay : (K (F := F)).Pay (nD := nD) (Val := Elt F) (Name := ℕ) (U := UU) :=
  P (fun d => V₁ m d (dr main_v0)) (fun d => V₁ m d (dr main_arg1)) (fun d => V₁ m d (dr main_v1))

/-- There is one pipeline. -/
theorem one_pipeline (Φ : Fin 1 → Dev nD → sProp 𝕄) :
    (bigSep Finset.univ fun d : Dev nD => bigSep Finset.univ fun p : Fin 1 => Φ p d) ⊢ bigSep Finset.univ fun d : Dev nD => Φ 0 d :=
  Entails.of_eq (bigSep_congr fun _ _ => bigSep_univ_of_subsingleton (0 : Fin 1))

theorem hu₀ : (ownU (u₀ (F := F)) : sProp 𝕄)
    ⊢ |={Set.univ}=> iprop(BI.own (EH (initOf (K (F := F)).hsCells (K (F := F)).hsToks)) ∗ (bigSep Finset.univ fun d : Dev nD => ghost d)
        ∗ bigSep Finset.univ fun thr : Thread nD τ => bigSep Finset.univ fun q : Fin 1 => (pay m).x q thr) := by
  unfold u₀
  iintro Hu
  ihave H := (ownU_pair _ _) $$ Hu
  icases H with ⟨HH, HR⟩
  ihave H := (own_pair_emb embR _ _) $$ HR
  icases H with ⟨HP, -⟩
  imod (Pipeline.fund_ghost (pins (F := F)) EP pins_inj) $$ HP with ⟨Hc, Ht⟩
  imodintro
  isplitl [HH]; · iexact HH
  isplitl [Hc Ht]
  · rw [bigSep_sep']
    isplitl [Hc]
    · iapply (one_pipeline (F := F) (Pipeline.cellsGhost (pins (F := F)) EP)); iexact Hc
    · iapply (one_pipeline (F := F) (Pipeline.toksInit (pins (F := F)) EP)); iexact Ht
  rw [show (bigSep Finset.univ fun thr : Thread nD τ => bigSep Finset.univ fun q : Fin 1 => (pay (F := F) m).x q thr)
      = bigSep Finset.univ fun _ : Thread nD τ => (BI.emp : sProp 𝕄) from
    bigSep_congr fun _ _ => bigSep_univ_of_subsingleton (0 : Fin 1), bigSep_emp_const]
  iempintro

/-! ## @main's run -/

/-- The buffers @main may name. -/
abbrev bufs : Finset (DevRef τ sig) := Pipeline.ucRefs τ sig

theorem mem_bufs (b : Ref sig .tc) (h : (dr b).isScoped = false) : dr b ∈ bufs :=
  Finset.mem_filter.mpr ⟨StableHlo.devRef_mem_tcRefs b, by rw [h]; exact Bool.false_ne_true⟩

theorem pad_bufs : ∀ op ∈ (opsPad : List (HloOp τ sig (Elt F))), op.bufs ⊆ bufs :=
  List.forall_iff_forall_mem.mp ⟨Pipeline.sub_ucRefs _ (StableHlo.nullary_bufs_sub ..), Pipeline.sub_ucRefs _ (StableHlo.unary_bufs_sub ..),
    Pipeline.sub_ucRefs _ (StableHlo.binary_bufs_sub ..)⟩
theorem rows_bufs : ∀ op ∈ (opsRows : List (HloOp τ sig (Elt F))), op.bufs ⊆ bufs :=
  List.forall_iff_forall_mem.mp ⟨Pipeline.sub_ucRefs _ (StableHlo.reshape_bufs_sub ..), Pipeline.sub_ucRefs _ (StableHlo.reshape_bufs_sub ..),
    Pipeline.sub_ucRefs _ (StableHlo.reshape_bufs_sub ..), Pipeline.sub_ucRefs _ (StableHlo.reshape_bufs_sub ..)⟩
theorem end_bufs : ∀ op ∈ (opsEnd : List (HloOp τ sig (Elt F))), op.bufs ⊆ bufs :=
  List.forall_iff_forall_mem.mp (Pipeline.sub_ucRefs _ (StableHlo.reshape_bufs_sub ..))
theorem pad_fresh : ∀ op ∈ (opsPad : List (HloOp τ sig (Elt F))), op.fresh = ∅ :=
  List.forall_iff_forall_mem.mp (StableHlo.forall_fresh_of_map rfl)
theorem rows_fresh : ∀ op ∈ (opsRows : List (HloOp τ sig (Elt F))), op.fresh = ∅ :=
  List.forall_iff_forall_mem.mp (StableHlo.forall_fresh_of_map rfl)
theorem end_fresh : ∀ op ∈ (opsEnd : List (HloOp τ sig (Elt F))), op.fresh = ∅ :=
  List.forall_iff_forall_mem.mp (StableHlo.forall_fresh_of_map rfl)

/-- The three arrays of the lookup among them, -/
abbrev lookupBufs : Finset (DevRef τ sig) := {dr main_arg1, dr main_v0, dr main_v1}
theorem lookupBufs_sub : lookupBufs ⊆ bufs := by
  intro b hb
  simp only [lookupBufs, Finset.mem_insert, Finset.mem_singleton] at hb
  rcases hb with rfl | rfl | rfl <;> exact mem_bufs _ rfl
/-- and the eleven of the perceptron. -/
theorem mlpBufs_sub : mlpBufs ⊆ bufs := by
  intro b hb
  obtain ⟨w, -, rfl⟩ := Finset.mem_image.mp hb
  exact mem_bufs _ ((by decide : ∀ w : Fin 11, (dr (Pipeline.arrRef spec1 w)).isScoped = false) w)

theorem held_lookup (d : Dev nD) (W : Valuation τ sig (Elt F)) : (StableHlo.held (d : Thread nD τ) lookupBufs W : sProp 𝕄)
    = iprop((iLoc d ↦{fullShare} W (dr main_arg1)) ∗ (tLoc d ↦{fullShare} W (dr main_v0)) ∗ oLoc d ↦{fullShare} W (dr main_v1)) := by
  unfold StableHlo.held lookupBufs
  rw [SparseCore.bigSep_insert' (by simp [StableHlo.devRef_ne_of_ne (τ := τ) (show main_arg1 ≠ main_v0 by decide),
      StableHlo.devRef_ne_of_ne (τ := τ) (show main_arg1 ≠ main_v1 by decide)]),
    SparseCore.bigSep_insert' (by simp [StableHlo.devRef_ne_of_ne (τ := τ) (show main_v0 ≠ main_v1 by decide)]), bigSep_singleton]

/-- What the device holds before the lookup is what the call takes and the rest; -/
theorem before_lookup (d : Dev nD) : (StableHlo.held (d : Thread nD τ) bufs (V₁ m d) : sProp 𝕄)
    = iprop((bigSep Finset.univ fun c : Fin ((K (F := F)).nCore 0) => (pay m).st 0 d c)
        ∗ StableHlo.held (d : Thread nD τ) (bufs \ lookupBufs) (V₁ m d)) := by
  rw [StableHlo.held_sub_split _ lookupBufs_sub, held_lookup, pay, st_eq]
/-- what the call gives back and the rest is what the device holds after it. -/
theorem after_lookup (d : Dev nD) : (StableHlo.held (d : Thread nD τ) bufs (V₂ m d) : sProp 𝕄)
    = iprop((bigSep Finset.univ fun c : Fin ((K (F := F)).nCore 0) => (pay m).dn 0 d c)
        ∗ StableHlo.held (d : Thread nD τ) (bufs \ lookupBufs) (V₁ m d)) := by
  rw [StableHlo.held_sub_split _ lookupBufs_sub, held_lookup, pay, dn_eq, V₂_ne m d main_arg1 (by decide), V₂_ne m d main_v0 (by decide),
    V₂, Function.update_self]
  congr 1

/-- The perceptron changes none but its arrays. -/
theorem rest_mlp (d : Dev nD) : (StableHlo.held (d : Thread nD τ) (bufs \ mlpBufs) (V₃ m d) : sProp 𝕄)
    = StableHlo.held (d : Thread nD τ) (bufs \ mlpBufs) (V₄ m d) :=
  StableHlo.held_congr _ fun b hb => (Function.update_of_ne (fun e => (Finset.mem_sdiff.mp hb).2 (by
    rw [e]; exact Finset.mem_image.mpr ⟨10, Finset.mem_univ _, rfl⟩)) ..).symm

/-- After the one SparseCore call the TensorCore owes nothing; what it has recorded may be exchanged. -/
theorem owes_of_tcSt (d : Dev nD) : (K (F := F)).tcSt EH d 1 ⊢ iprop(owesLow (F := F) d ∗ (owesLow (F := F) d -∗ (K (F := F)).tcSt EH d 1)) := by
  unfold SparseCore.Cfg.tcSt
  rw [(K (F := F)).Otc_end d (le_refl 1)]
  iintro ⟨HO, Hr⟩
  isplitl [HO]; · iexact HO
  iintro HO
  isplitl [HO]; · iexact HO
  iexact Hr

/-- What a device holds at the end. -/
abbrev FIN (d : Dev nD) : sProp 𝕄 := StableHlo.held (d : Thread nD τ) bufs (V₅ m d)

/-- The kernel's call, as @main makes it. -/
theorem call_mlp [∀ e, Nonempty (Elt F e)] (d : Dev nD) (Q : PUnit → sProp 𝕄) :
    iprop((iprop(boundary (d : Thread nD τ) ∗ StableHlo.held (d : Thread nD τ) mlpBufs (V₄ m d) ∗ owesLow d) -∗ Q ⟨⟩)
        ∗ boundary (d : Thread nD τ) ∗ (StableHlo.held (d : Thread nD τ) mlpBufs (V₃ m d) ∗ owesLow d)
        ∗ levAts (K (F := F)).L (K (F := F)).lev ∗ ghost d)
      ⊢ wp frame (wpE ((K (F := F)).defs (D (F := F))) 𝒱 (SparseCore.T d) none) Set.univ
          (SparseCore.liftProg (.op (.customCall (Pipeline.entry 0) ()) .ret)) Q := by
  change iprop((iprop(boundary (d : Thread nD τ) ∗ (region (V₃ m)).post d) -∗ Q ⟨⟩) ∗ boundary (d : Thread nD τ) ∗ (region (V₃ m)).pre d
    ∗ levAts (K (F := F)).L (K (F := F)).lev ∗ ghost d) ⊢ _
  iintro ⟨Hk, H⟩
  iapply ((K (F := F)).wp_liftProg (D (F := F)) 𝒱 (SparseCore.T d) Set.univ none _ Q)
  iapply (Pipeline.RegionSeg.wp (pcfgs (F := F)) adm (pdats (V₃ m)) none pins_inj EP (defs₀ (F := F)) 𝒱₀
    (K (F := F)).L (K (F := F)).lev (region (V₃ m)) d none (fun _ h => nomatch h) .ret Q)
  isplitl [Hk]
  · iintro H
    rw [wp_ret]; imodintro
    iapply Hk; iexact H
  iexact H

set_option backward.isDefEq.respectTransparency.types false in
theorem hmain [∀ e, Nonempty (Elt F e)] (ρ : Dev nD → PrngReg) (κ : GSem nD τ sig → ℕ) (d : Dev nD) :
    iprop((K (F := F)).ctx EH (pay m) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show unscopedBufs d (fun b => m ((SparseCore.T d).loc b)) = (StableHlo.held (d : Thread nD τ) bufs (StableHlo.launchContents m d) : sProp 𝕄) from
    Pipeline.unscopedBufs_held d (StableHlo.launchContents m d), main_eq]
  iintro ⟨#Hctx, Hst, ⟨Hb, Hh, Hts, -⟩, Hg⟩
  iapply (StableHlo.wp_seq 𝒱 none Set.univ d bufs _ opsPad pad_bufs pad_fresh (StableHlo.launchContents m d)) $$ [Hb Hh]
  · isplitl [Hb]; · iexact Hb
    iexact Hh
  iintro ⟨Hb, Hh⟩
  ihave Hh := (Entails.of_eq (show StableHlo.held (d : Thread nD τ) bufs (StableHlo.after opsPad (StableHlo.launchContents m d)) = _ from
    before_lookup m d)) $$ Hh
  icases Hh with ⟨Hin, Hrest⟩
  rw [wp_bind]
  iapply ((K (F := F)).wp_run (D (F := F)) 𝒱 (EH := EH) (P := pay m) κ d 0) $$ [Hst Hin Hrest Hb Hts Hg]
  isplitr; · iexact Hctx
  isplitl [Hst]; · iexact Hst
  isplitl [Hin]; · iexact Hin
  iintro ⟨Hst, Hdn⟩
  iapply (StableHlo.wp_seq 𝒱 none Set.univ d bufs _ opsRows rows_bufs rows_fresh (V₂ m d)) $$ [Hb Hdn Hrest]
  · isplitl [Hb]; · iexact Hb
    rw [after_lookup m d]
    isplitl [Hdn]; · iexact Hdn
    iexact Hrest
  iintro ⟨Hb, Hh⟩
  ihave Hh := (Entails.of_eq (show StableHlo.held (d : Thread nD τ) bufs (StableHlo.after opsRows (V₂ m d)) = _ from
    StableHlo.held_sub_split (d : Thread nD τ) mlpBufs_sub (V₃ m d))) $$ Hh
  icases Hh with ⟨Hin, Hrest⟩
  ihave HO := (show (K (F := F)).tcSt EH d ((0 : Fin 1).val + 1) ⊢ _ from owes_of_tcSt d) $$ Hst
  icases HO with ⟨HO, Hst⟩
  ihave Hlev := (SparseCore.Cfg.ctx_levAts κ) $$ Hctx
  rw [wp_bind]
  iapply (call_mlp m d _)
  isplitr [Hb Hin HO Hlev Hg]
  · iintro ⟨Hb, Hout, HO⟩
    ihave Hst := Hst $$ HO
    iapply (StableHlo.wp_seq 𝒱 none Set.univ d bufs _ opsEnd end_bufs end_fresh (V₄ m d)) $$ [Hb Hout Hrest]
    · isplitl [Hb]; · iexact Hb
      rw [StableHlo.held_sub_split _ mlpBufs_sub, ← rest_mlp m d]
      isplitl [Hout]; · iexact Hout
      iexact Hrest
    iintro ⟨Hb, Hh⟩
    rw [wp_pure]; imodintro
    isplitl [Hst]; · iexact Hst
    isplitl [Hh]; · iexact Hh
    isplitl [Hb] <;> iassumption
  isplitl [Hb]; · iexact Hb
  isplitl [Hin HO]
  · isplitl [Hin]; · iexact Hin
    iexact HO
  isplitl [Hlev]; · iexact Hlev
  iexact Hg

/-! ## The run -/

/-- Every buffer @main may name is, at the end, at what was followed. -/
def fq (d : Dev nD) (s' : Phys nD τ sig (Elt F)) : Prop := ∀ b ∈ bufs, s'.mem.mem (d, b) = V₅ m d b

theorem hfin (d : Dev nD) (s' : Phys nD τ sig (Elt F)) : iprop(FIN m d ∗ SI s') ⊢ (⌜fq m d s'⌝ : sProp 𝕄) := by
  unfold FIN StableHlo.held
  iintro ⟨H, HSI⟩
  ihave %h := (SI_pointsTo_bufs_agree (qs := fun _ => fullShare) bufs) $$ [HSI H]
  · isplitl [HSI]; · iexact HSI
    iexact H
  ipureintro
  exact h

/-- The whole program: from any memory whose row numbers are below 1000, every weakly fair execution ends, every buffer
    @main names at what was followed and every semaphore at zero. -/
theorem run_main [∀ e, Nonempty (Elt F e)] (ρ : Dev nD → PrngReg)
    (hy : ∀ d : Dev nD, InRows (m ((d : Thread nD τ).loc main_arg1))) :
    θ_run (Cert.KernelIdeal.defs (F := F)) (Cert.KernelIdeal.threads (F := F)) ⟨m, fun _ => 0, ρ⟩
      (fun r => (∀ (d : Dev nD), ∀ b ∈ bufs, r.2.mem (d, b) = V₅ m d b) ∧ r.2.sem = fun _ => 0) :=
  SparseCore.Cfg.θ_run_sc_quiescent (K := K (F := F)) (D := D (F := F)) (𝒱 := 𝒱) (EH := EH) (P := pay m) (A := ∅) facts v₀
    (fun q hq => match q with | 0 => nomatch hq)
    (fun q _ => match q with
      | 0 => tileObl _ _ _ facts fun d => by rw [V₁_ne m d main_arg1 (by decide)]; exact hy d)
    (fun q _ => match q with | 0 => SparseCore.Cfg.VecSplit.of_plain (vecSplit _ _ _))
    m ρ main ghost (FIN m) (u₀ (F := F)) (sep_elim_left.trans (hu₀ m)) (hmain m ρ) (fq m) (hfin m) _ (fun _ h hz => ⟨h, hz⟩)

end Steps

end Cert.Proof.Lookup

end
-- ==== Proof.Score.lean ====
/-
  What one row of the batch comes to, over the extended reals: the perceptron's score as sums over coordinates. The two
  programs are each shown to leave this number for every row.
-/
module

public import Idealize.ShloMosaic.Lib.IdealHost
public import Idealize.ShloMosaic.Lib.ValueIdx

@[expose] public section

noncomputable section

namespace Cert.Proof.Lookup

open Idealize.ShloMosaic
open Idealize.ShloMosaic.ValueIdx (ix1 ix2)
open scoped BigOperators

/-- The slope of the activation on negative numbers, the single-precision number nearest one fifth. -/
def slope : EReal := Ideal.ofBits .f32 0x3E4CCCCD#32

/-- The activation: the greater of a number and its multiple by the slope. -/
def leak (v : EReal) : EReal := max v (slope * v)

/-- One entry of a dense layer: the products of the inputs with a column of weights, summed, and a bias. -/
def dense {K N : ℕ} (h : Fin K → EReal) (w : FVec Ideal ⟨2, ![K, N]⟩ .f32) (b : FVec Ideal ⟨1, ![N]⟩ .f32) (n : Fin N) : EReal :=
  (∑ k : Fin K, h k * w (ix2 k n)) + b (ix1 n)

/-- One entry of the first layer before its activation: the 1024 features meet the first 1024 rows of the weights, the
    64 entries of the looked-up row meet the 64 rows after them. -/
def first (x : Fin 1024 → EReal) (e : Fin 64 → EReal) (w : FVec Ideal ⟨2, ![1088, 1024]⟩ .f32) (b : FVec Ideal ⟨1, ![1024]⟩ .f32)
    (n : Fin 1024) : EReal :=
  ((∑ k : Fin 1024, x k * w (ix2 ⟨k.val, by omega⟩ n)) + ∑ k : Fin 64, e k * w (ix2 ⟨1024 + k.val, by omega⟩ n)) + b (ix1 n)

/-- The score of one row. -/
def score (x : Fin 1024 → EReal) (e : Fin 64 → EReal) (w0 : FVec Ideal ⟨2, ![1088, 1024]⟩ .f32) (b0 : FVec Ideal ⟨1, ![1024]⟩ .f32)
    (w1 : FVec Ideal ⟨2, ![1024, 512]⟩ .f32) (b1 : FVec Ideal ⟨1, ![512]⟩ .f32) (w2 : FVec Ideal ⟨2, ![512, 256]⟩ .f32)
    (b2 : FVec Ideal ⟨1, ![256]⟩ .f32) (w3 : FVec Ideal ⟨2, ![256, 1]⟩ .f32) (b3 : FVec Ideal ⟨1, ![1]⟩ .f32) : EReal :=
  dense (fun k => leak (dense (fun k => leak (dense (fun k => leak (first x e w0 b0 k)) w1 b1 k)) w2 b2 k)) w3 b3 0

/-- The slope is a real number between 0 and 1. -/
theorem slope_real : ∃ r : ℝ, slope = (r : EReal) ∧ 0 ≤ r ∧ r ≤ 1 := by
  refine ⟨13421773 / 67108864, ?_, by norm_num, by norm_num⟩
  unfold slope
  simp [Ideal.ofBits, Ideal.ieee]
  rw [← EReal.coe_mul]
  norm_num

/-- The activation as the other program spells it: the number itself where it is at least 0, its multiple elsewhere.
    Both infinities included. -/
theorem leak_eq_ite (v : EReal) : leak v = if 0 ≤ v then v else slope * v := by
  obtain ⟨r, hr, h0, h1⟩ := slope_real
  unfold leak
  rw [hr]
  split
  · rename_i h
    refine max_eq_left ?_
    have := mul_le_mul_of_nonneg_right (show (r : EReal) ≤ 1 from by exact_mod_cast h1) h
    rwa [one_mul] at this
  · rename_i h
    refine max_eq_right ?_
    have hv : 0 ≤ -v := by rw [EReal.neg_nonneg]; exact le_of_lt (not_le.1 h)
    have := mul_le_mul_of_nonneg_right (show (r : EReal) ≤ 1 from by exact_mod_cast h1) hv
    rw [one_mul, mul_neg, EReal.neg_le_neg_iff] at this
    exact this

end Cert.Proof.Lookup

end
-- ==== Proof.Layers.lean ====
/-
  One layer of the perceptron read at an index, as each of the two programs prints it, at any extents: the product, the
  bias laid along the rows, and the activation. Both come to the sums of the module on scores.
-/
module

public import proofs.«01_k».proof.Proof.Score
public import Idealize.ShloMosaic.Lib.MatmulPlain
public import Idealize.ShloMosaic.Lib.StackMember
public import Idealize.ShloMosaic.Lib.KernelVsHost
public import Idealize.ShloMosaic.Lib.Pipeline.Value

@[expose] public section

noncomputable section

namespace Cert.Proof.Lookup

open Idealize.ShloMosaic
open Idealize.ShloMosaic.ValueIdx (ix1 ix2)
open scoped BigOperators

section Bias
variable {α : Type} {M N : ℕ}

/-- The kernel's bias: a vector reshaped to one row, and that row laid along every row, is the vector's entry of the
    column. -/
theorem kernel_bias (b : (⟨1, ![N]⟩ : Shape).Idx → α) (h1 : (⟨1, ![N]⟩ : Shape).ShapeCasts ⟨2, ![1, N]⟩)
    (h2 : (⟨2, ![1, N]⟩ : Shape).ShapeCasts ⟨2, ![1, N]⟩) (hb : (⟨2, ![1, N]⟩ : Shape).Broadcasts ⟨2, ![M, N]⟩) (r : Fin M) (n : Fin N) :
    broadcastTo ⟨2, ![M, N]⟩ (shapeCast ⟨2, ![1, N]⟩ (shapeCast ⟨2, ![1, N]⟩ b h1) h2) hb (ix2 r n) = b (ix1 n) := by
  rw [shapeCast_self]
  refine (broadcastTo_apply _ hb (ix2 r n) (ix2 (0 : Fin 1) n) ?_).trans (shapeCast_apply b h1 (ix2 (0 : Fin 1) n) (ix1 n) ?_)
  · intro a
    match a with
    | ⟨0, _⟩ => rfl
    | ⟨1, _⟩ =>
      show n.val = if N = 1 then 0 else n.val
      have := n.isLt
      split <;> omega
  · rw [Shape.rowMajor_val_two, Shape.rowMajor_val_one]
    show n.val = 0 * N + n.val
    omega

/-- The reference's bias: the vector broadcast to one row and that row to every row is the vector's entry of the
    column. -/
theorem host_bias (b : (⟨1, ![N]⟩ : Shape).Idx → α) (h1 : (⟨1, ![N]⟩ : Shape).BroadcastsInDim ⟨2, ![1, N]⟩ ![1])
    (h2 : (⟨2, ![1, N]⟩ : Shape).BroadcastsInDim ⟨2, ![M, N]⟩ ![0, 1]) (r : Fin M) (n : Fin N) :
    broadcastInDim ⟨2, ![M, N]⟩ ![0, 1] h2 (broadcastInDim ⟨2, ![1, N]⟩ ![1] h1 b) (ix2 r n) = b (ix1 n) := by
  refine (broadcastInDim_oneRow_apply h2 _ r n).trans (broadcastInDim_apply ![1] h1 b (ix2 (0 : Fin 1) n) (ix1 n) ?_)
  intro a
  match a with
  | ⟨0, _⟩ =>
    show n.val = if N = 1 then 0 else n.val
    have := n.isLt
    split <;> omega

end Bias

section Layer
variable {M K N : ℕ}

/-- A layer's entry depends on the inputs' values alone. -/
theorem dense_congr {h h' : Fin K → EReal} (e : ∀ k, h k = h' k) (w : FVec Ideal ⟨2, ![K, N]⟩ .f32) (b : FVec Ideal ⟨1, ![N]⟩ .f32)
    (n : Fin N) : dense h w b n = dense h' w b n := by rw [funext e]

/-- The kernel's product into a zero accumulator is the sum over the contracted coordinate. -/
theorem kernel_product (h : FVec Ideal ⟨2, ![M, K]⟩ .f32) (w : FVec Ideal ⟨2, ![K, N]⟩ .f32) (r : Fin M) (n : Fin N) :
    matmul (DotDims.plain M K N) none h w (constant (F := Ideal) ⟨2, ![M, N]⟩ .f32 0x00000000#32) (ix2 r n)
      = ∑ k : Fin K, h (ix2 r k) * w (ix2 k n) := by
  refine (Ideal.matmul_plain_apply none h w _ r n).trans ?_
  show Ideal.ofBits .f32 0x00000000#32 + _ = _
  rw [Ideal.ofBits_zero_f32, zero_add]

/-- The kernel's layer before its activation. -/
theorem kernel_dense (h : FVec Ideal ⟨2, ![M, K]⟩ .f32) (w : FVec Ideal ⟨2, ![K, N]⟩ .f32) (b : FVec Ideal ⟨1, ![N]⟩ .f32)
    (h1 : (⟨1, ![N]⟩ : Shape).ShapeCasts ⟨2, ![1, N]⟩) (h2 : (⟨2, ![1, N]⟩ : Shape).ShapeCasts ⟨2, ![1, N]⟩)
    (hb : (⟨2, ![1, N]⟩ : Shape).Broadcasts ⟨2, ![M, N]⟩) (r : Fin M) (n : Fin N) :
    addf (matmul (DotDims.plain M K N) none h w (constant (F := Ideal) ⟨2, ![M, N]⟩ .f32 0x00000000#32))
        (broadcastTo ⟨2, ![M, N]⟩ (shapeCast ⟨2, ![1, N]⟩ (shapeCast ⟨2, ![1, N]⟩ b h1) h2) hb) (ix2 r n)
      = dense (fun k => h (ix2 r k)) w b n :=
  congrArg₂ (fun u v : EReal => u + v) (kernel_product h w r n) (kernel_bias b h1 h2 hb r n)

/-- The reference's layer before its activation. -/
theorem host_dense (h : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (n : Fin N) :
    addf (Host.dotGeneral (DotDims.plain M K N) none h w)
        (broadcastInDim ⟨2, ![M, N]⟩ ![0, 1] h2 (broadcastInDim ⟨2, ![1, N]⟩ ![1] h1 b)) (ix2 r n)
      = dense (fun k => h (ix2 r k)) w b n :=
  congrArg₂ (fun u v : EReal => u + v) (StackMember.dotGeneral_plain_apply none h w r n) (host_bias b h1 h2 r n)

end Layer

section Activation
variable {s : Shape}

/-- The kernel's activation, the greater of a number and its multiple. -/
theorem kernel_leak (v : FVec Ideal s .f32) (i : s.Idx) :
    maximumf v (mulf (broadcast s (Scalar.ofBits (F := Ideal) .f32 0x3E4CCCCD#32)) v) i = leak (v i) := rfl

/-- The reference's activation, a choice between the two by the number's sign. -/
theorem host_leak (v : FVec Ideal s .f32) (h : (⟨0, ![]⟩ : Shape).BroadcastsInDim s ![]) (i : s.Idx) :
    select (cmpf .oge v (broadcastInDim s ![] h (constant (F := Ideal) ⟨0, ![]⟩ .f32 0x00000000#32))) v
        (mulf (broadcastInDim s ![] h (constant (F := Ideal) ⟨0, ![]⟩ .f32 0x3E4CCCCD#32)) v) i
      = leak (v i) := by
  show Scalar.select (BitVec.ofBool (decide (Ideal.ofBits .f32 0x00000000#32 ≤ v i))) (v i) (slope * v i) = _
  rw [leak_eq_ite, Ideal.ofBits_zero_f32]
  by_cases hv : (0 : EReal) ≤ v i
  · rw [decide_eq_true hv, if_pos hv]; rfl
  · rw [decide_eq_false hv, if_neg hv]; rfl

end Activation

end Cert.Proof.Lookup

end
-- ==== Proof.KernelScore.lean ====
/-
  The kernel's result over the extended reals: entry i of what @main returns is the score of row i of the features and
  the row of the table that y names there.
-/
module

public import proofs.«01_k».proof.Proof.Main
public import proofs.«01_k».proof.Proof.Layers

@[expose] public section

set_option maxRecDepth 16384

noncomputable section

namespace Cert.Proof.Lookup

open Cert.KernelIdeal Cert.KernelIdeal.Gen
open Idealize.ShloMosaic Idealize.ShloMosaic.TcCoe
open Idealize.ShloMosaic.ValueIdx (ix1 ix2)
open scoped BigOperators

/-! ## The first layer's two products -/

/-- A load of some rows of the weights reads the row the load's first row moves it to. -/
theorem topRows_apply (w : FVec Ideal S1088x1024 .f32) (k : Fin 1024) (n : Fin 1024) :
    topRows (F := Ideal) w (ix2 k n) = w (ix2 ⟨k.val, by omega⟩ n) := by
  unfold topRows
  rw [View.ld_unit]
  refine congrArg w (funext fun a => Fin.ext ?_)
  match a with
  | ⟨0, _⟩ => show 0 + k.val = k.val; omega
  | ⟨1, _⟩ => show 0 + n.val = n.val; omega

/-- Row k of the last 128 rows is row 960 + k of the weights. -/
theorem botRows_apply (w : FVec Ideal S1088x1024 .f32) (k : Fin 128) (n : Fin 1024) :
    botRows (F := Ideal) w (ix2 k n) = w (ix2 ⟨960 + k.val, by omega⟩ n) := by
  unfold botRows
  rw [View.ld_unit]
  refine congrArg w (funext fun a => Fin.ext ?_)
  match a with
  | ⟨0, _⟩ => rfl
  | ⟨1, _⟩ => show 0 + n.val = n.val; omega

/-- The first layer's sums: where the first 64 entries of a looked-up row are zero, the products they enter vanish,
    whatever weights they meet, and the other 64 meet the weights' last 64 rows. -/
theorem kernel_first (x : FVec Ideal S1024x1024 .f32) (e : FVec Ideal S1024x128 .f32) (w : FVec Ideal S1088x1024 .f32)
    (b : FVec Ideal S1024 .f32) (r : Fin 1024) (n : Fin 1024) (he : ∀ k : Fin 64, e (ix2 r ⟨k.val, by omega⟩) = (0 : EReal)) :
    ((∑ k : Fin 1024, x (ix2 r k) * topRows (F := Ideal) w (ix2 k n)) + ∑ k : Fin 128, e (ix2 r k) * botRows (F := Ideal) w (ix2 k n)) + b (ix1 n)
      = first (fun k => x (ix2 r k)) (fun k => e (ix2 r ⟨64 + k.val, by omega⟩)) w b n := by
  unfold first
  have hx : (∑ k : Fin 1024, x (ix2 r k) * topRows (F := Ideal) w (ix2 k n)) = ∑ k : Fin 1024, x (ix2 r k) * w (ix2 ⟨k.val, by omega⟩ n) :=
    Finset.sum_congr rfl fun k _ => by rw [topRows_apply]
  have hy : (∑ k : Fin 128, e (ix2 r k) * botRows (F := Ideal) w (ix2 k n))
      = ∑ k : Fin 64, e (ix2 r ⟨64 + k.val, by omega⟩) * w (ix2 ⟨1024 + k.val, by omega⟩ n) := by
    refine (Fin.sum_univ_add (a := 64) (b := 64) fun k : Fin (64 + 64) => e (ix2 r k) * botRows (F := Ideal) w (ix2 k n)).trans ?_
    have h0 : ∀ k : Fin 64, e (ix2 r (Fin.castAdd 64 k)) * botRows (F := Ideal) w (ix2 (Fin.castAdd 64 k) n) = 0 := fun k => by
      rw [show e (ix2 r (Fin.castAdd 64 k)) = (0 : EReal) from he k, zero_mul]
    rw [Finset.sum_eq_zero fun k _ => h0 k, zero_add]
    refine Finset.sum_congr rfl fun k _ => congrArg₂ (fun u v : EReal => u * v) rfl ?_
    refine (botRows_apply w _ n).trans (congrArg (fun q => w (ix2 q n)) (Fin.ext ?_))
    show 960 + (64 + k.val) = 1024 + k.val
    omega
  exact congrArg₂ (fun u v : EReal => u + v) (congrArg₂ (fun u v : EReal => u + v) hx hy) rfl

/-! ## One block of 1024 rows -/

/-- The last hidden layer's activations of one row. -/
theorem kernel_hidden (x : FVec Ideal S1024x1024 .f32) (e : FVec Ideal S1024x128 .f32) (w0 : FVec Ideal S1088x1024 .f32)
    (b0 : FVec Ideal S1024 .f32) (w1 : FVec Ideal S1024x512 .f32) (b1 : FVec Ideal S512 .f32) (w2 : FVec Ideal S512x256 .f32)
    (b2 : FVec Ideal S256 .f32) (r : Fin 1024) (n : Fin 256) (he : ∀ k : Fin 64, e (ix2 r ⟨k.val, by omega⟩) = (0 : EReal)) :
    k1_pay2 (F := Ideal) x (topRows (F := Ideal) w0) e (botRows (F := Ideal) w0) (shapeCast S1x1024 b0 shapeCasts_S1024_S1x1024) w1
        (shapeCast S1x512 b1 shapeCasts_S512_S1x512) w2 (shapeCast S1x256 b2 shapeCasts_S256_S1x256) (ix2 r n)
      = leak (dense (fun k => leak (dense (fun k => leak (first (fun k => x (ix2 r k))
          (fun k => e (ix2 r ⟨64 + k.val, by omega⟩)) w0 b0 k)) w1 b1 k)) w2 b2 n) := by
  unfold k1_pay2
  refine (kernel_leak _ _).trans (congrArg leak ((kernel_dense _ w2 b2 _ _ _ r n).trans (dense_congr (fun k => ?_) w2 b2 n)))
  refine (kernel_leak _ _).trans (congrArg leak ((kernel_dense _ w1 b1 _ _ _ r k).trans (dense_congr (fun k => ?_) w1 b1 k)))
  refine (kernel_leak _ _).trans (congrArg leak (Eq.trans ?_ (kernel_first x e w0 b0 r k he)))
  refine congrArg₂ (fun u v : EReal => u + v) (congrArg₂ (fun u v : EReal => u + v) (kernel_product x (topRows (F := Ideal) w0) r k) ?_)
    (kernel_bias b0 _ _ _ r k)
  rw [shapeCast_self]
  exact kernel_product e (botRows (F := Ideal) w0) r k

/-- One block's scores, row by row. -/
theorem kernel_block (x : FVec Ideal S1024x1024 .f32) (e : FVec Ideal S1024x128 .f32) (w0 : FVec Ideal S1088x1024 .f32)
    (b0 : FVec Ideal S1024 .f32) (w1 : FVec Ideal S1024x512 .f32) (b1 : FVec Ideal S512 .f32) (w2 : FVec Ideal S512x256 .f32)
    (b2 : FVec Ideal S256 .f32) (w3 : FVec Ideal S256x1 .f32) (b3 : FVec Ideal S1 .f32) (r : Fin 1024)
    (he : ∀ k : Fin 64, e (ix2 r ⟨k.val, by omega⟩) = (0 : EReal)) :
    mlpBlock (F := Ideal) x e w0 (shapeCast S1x1024 b0 shapeCasts_S1024_S1x1024) w1 (shapeCast S1x512 b1 shapeCasts_S512_S1x512) w2
        (shapeCast S1x256 b2 shapeCasts_S256_S1x256) w3 (shapeCast S1x1 b3 shapeCasts_S1_S1x1) (ix2 0 r)
      = score (fun k => x (ix2 r k)) (fun k => e (ix2 r ⟨64 + k.val, by omega⟩)) w0 b0 w1 b1 w2 b2 w3 b3 := by
  unfold mlpBlock k1_pay1
  refine (shapeCast_apply _ _ (ix2 0 r) (ix2 r 0) ?_).trans ?_
  · rw [Shape.rowMajor_val_two, Shape.rowMajor_val_two]
    show r.val * 1 + 0 = 0 * 1024 + r.val
    omega
  · exact (kernel_dense _ w3 b3 _ _ _ r 0).trans
      (dense_congr (fun k => kernel_hidden x e w0 b0 w1 b1 w2 b2 r k he) w3 b3 0)

/-! ## The whole result -/

/-- A padded row's first 64 entries are zero. -/
theorem padded_left (t : FVec Ideal S1000x64 .f32) (i : Fin 1000) (k : Fin 64) :
    padded (F := Ideal) t (ix2 i ⟨k.val, by omega⟩) = (0 : EReal) := by
  unfold padded
  refine (pad_apply_of_not_inside _ _ _ _ _ _ _ _ (1 : Fin 2) fun h => ?_).trans (sitofp_zero (φ := .f32))
  have h1 : 64 ≤ k.val := h.1
  omega

/-- Its last 64 entries are the row of the table. -/
theorem padded_right (t : FVec Ideal S1000x64 .f32) (i : Fin 1000) (k : Fin 64) :
    padded (F := Ideal) t (ix2 i ⟨64 + k.val, by omega⟩) = t (ix2 i k) := by
  unfold padded
  refine pad_apply_of_inside _ _ _ _ _ _ _ _ (ix2 i k) fun a => ?_
  match a with
  | ⟨0, _⟩ => show i.val = 0 + i.val * (0 + 1); omega
  | ⟨1, _⟩ => show 64 + k.val = 64 + k.val * (0 + 1); omega

/-- **What the kernel returns**: entry i is the score of row i. -/
theorem outOf_apply (x : FVec Ideal S4096x1024 .f32) (y : IVec S4096 32) (t : FVec Ideal S1000x64 .f32)
    (w0 : FVec Ideal S1088x1024 .f32) (b0 : FVec Ideal S1024 .f32) (w1 : FVec Ideal S1024x512 .f32) (b1 : FVec Ideal S512 .f32)
    (w2 : FVec Ideal S512x256 .f32) (b2 : FVec Ideal S256 .f32) (w3 : FVec Ideal S256x1 .f32) (b3 : FVec Ideal S1 .f32)
    (i : Fin 4096) :
    outOf (F := Ideal) x y t w0 b0 w1 b1 w2 b2 w3 b3 (ix1 i)
      = score (fun k => x (ix2 i k)) (fun k => t (ix2 (rowOf (y (ix1 i))) k)) w0 b0 w1 b1 w2 b2 w3 b3 := by
  unfold outOf
  refine (shapeCast_apply _ _ (ix1 i) (ix2 (0 : Fin 1) i) ?_).trans ?_
  · rw [Shape.rowMajor_val_two, Shape.rowMajor_val_one]
    show 0 * 4096 + i.val = i.val
    omega
  have hi : (⟨1024 * (i.val / 1024) + i.val % 1024, by omega⟩ : Fin 4096) = i := Fin.ext (Nat.div_add_mod i.val 1024)
  have hX : ∀ k : Fin 1024, rowsAt (F := Ideal) x ⟨i.val / 1024, by omega⟩ (ix2 ⟨i.val % 1024, by omega⟩ k) = x (ix2 i k) := fun k =>
    congrArg (fun q => x (ix2 q k)) hi
  have hE : ∀ k : Fin 128, rowsAt (F := Ideal) (gathered (F := Ideal) (padded (F := Ideal) t) y) ⟨i.val / 1024, by omega⟩ (ix2 ⟨i.val % 1024, by omega⟩ k)
      = padded (F := Ideal) t (ix2 (rowOf (y (ix1 i))) k) := fun k =>
    congrArg (fun q => padded (F := Ideal) t (ix2 (rowOf (y (ix1 q))) k)) hi
  refine (kernel_block _ _ w0 b0 w1 b1 w2 b2 w3 b3 ⟨i.val % 1024, by omega⟩ fun k => ?_).trans ?_
  · exact (hE _).trans (padded_left t _ k)
  · have e1 : (fun k : Fin 1024 => rowsAt (F := Ideal) x ⟨i.val / 1024, by omega⟩ (ix2 ⟨i.val % 1024, by omega⟩ k)) = fun k => x (ix2 i k) := funext hX
    have e2 : (fun k : Fin 64 => rowsAt (F := Ideal) (gathered (F := Ideal) (padded (F := Ideal) t) y) ⟨i.val / 1024, by omega⟩ (ix2 ⟨i.val % 1024, by omega⟩ ⟨64 + k.val, by omega⟩))
        = fun k => t (ix2 (rowOf (y (ix1 i))) k) := funext fun k => (hE _).trans (padded_right t _ k)
    exact congrArg₂ (fun u v => score u v w0 b0 w1 b1 w2 b2 w3 b3) e1 e2

end Cert.Proof.Lookup

end
-- ==== Proof.HostScore.lean ====
/-
  The reference's result over the extended reals: where every entry of y names a row of the table, entry i of what it
  returns is the score of row i of the features and the row of the table that y names there.
-/
module

public import proofs.«01_k».proof.Proof.Setup
public import proofs.«01_k».proof.Proof.Layers
public import proofs.«01_k».proof.Proof.Gen.ReferenceIdeal.Run
public import Idealize.ShloMosaic.Lib.ReduceAll
public import Idealize.ShloMosaic.Lib.WordCmp
public import Idealize.ShloMosaic.Lib.Routing.Ops

@[expose] public section

set_option maxRecDepth 16384

noncomputable section

namespace Cert.Proof.Lookup

open Cert.ReferenceIdeal Cert.ReferenceIdeal.Gen
open Idealize.ShloMosaic Idealize.ShloMosaic.TcCoe
open Idealize.ShloMosaic.ValueIdx (ix1 ix2)
open scoped BigOperators

/-! ## The lookup -/

/-- The row numbers as the lookup uses them, a thousand added to the negative ones. -/
def wrapped (y : IVec S4096 32) : IVec S4096 32 :=
  select (cmpi .slt y (broadcastInDim S4096 ![] bcast_S_S4096 (constantI S_ 32 0#32)))
    (addi y (broadcastInDim S4096 ![] bcast_S_S4096 (constantI S_ 32 1000#32))) y

/-- The same as one column. -/
def column (y : IVec S4096 32) : IVec S4096x1 32 := broadcastInDim S4096x1 ![0] bcast_S4096_S4096x1_0 (wrapped y)

/-- Which rows of the batch name a row of the table. -/
def named (y : IVec S4096 32) : IVec S4096 1 :=
  Host.reduce IntOp.andi
    (andi (cmpi .sge (column y) (broadcastInDim S4096x1 ![] bcast_S_S4096x1 (constantI S_ 32 0#32)))
      (cmpi .sle (column y) (broadcastInDim S4096x1 ![0, 1] bcast_S1x1_S4096x1_0_1
        (broadcastInDim S1x1 ![1] bcast_S1_S1x1_1 (constantI S1 32 999#32)))))
    (constantI S_ 1 1#1) reducesTo_S4096x1_S4096_d1 h_S_

/-- The looked-up rows, a quiet not-a-number where no row is named. -/
def taken (t : FVec Ideal S1000x64 .f32) (y : IVec S4096 32) : FVec Ideal S4096x64 .f32 :=
  select (broadcastInDim S4096x64 ![0] bcast_S4096_S4096x64_0 (named y))
    (Host.gather gather_S1000x64_S4096x1_S4096x64_1_0_n_n_0_1_164 t (column y))
    (broadcastInDim S4096x64 ![] bcast_S_S4096x64 (constant S_ .f32 0x7FC00000#32))

/-- A row number in the table's range is not wrapped. -/
theorem wrapped_apply (y : IVec S4096 32) (hy : InRows y) (i : S4096.Idx) : wrapped y i = y i := by
  show Scalar.select (IntOp.cmpi .slt (y i) 0#32) _ (y i) = y i
  have h := hy i
  rw [WordCmp.cmpi_slt_zero, decide_eq_false (by show ¬2 ^ 31 ≤ (y i).toNat; omega)]
  rfl

/-- The column's entry. -/
theorem column_apply (y : IVec S4096 32) (hy : InRows y) (i : Fin 4096) (u : Fin 1) : column y (ix2 i u) = y (ix1 i) := by
  have e := broadcastInDim_apply ![0] bcast_S4096_S4096x1_0 (wrapped y) (ix2 i u) (ix1 i) fun a => by
    match a with
    | ⟨0, _⟩ => exact (if_neg (show ¬(4096 : ℕ) = 1 by decide)).symm
  have e' := wrapped_apply y hy (ix1 i)
  exact Eq.trans e e'

/-- Every row of the batch names a row of the table. -/
theorem named_apply (y : IVec S4096 32) (hy : InRows y) (i : S4096.Idx) : named y i = 1#1 := by
  unfold named
  refine Host.reduce_andi_one _ _ _ _ i rfl fun j => ?_
  have hj : column y j = y (ix1 (j 0)) := by
    rw [ValueIdx.eq_ix2 j]; exact column_apply y hy (j 0) (j 1)
  have h := hy (ix1 (j 0))
  show IntOp.andi (IntOp.cmpi .sge (column y j) 0#32) (IntOp.cmpi .sle (column y j) 999#32) = 1#1
  rw [hj]
  refine IntOp.andi_eq_one.2 ⟨IntOp.cmpi_sge.2 ?_, IntOp.cmpi_sle.2 ?_⟩ <;>
    simp only [BitVec.toInt_eq_toNat_cond, BitVec.toNat_ofNat, Nat.reducePow, Nat.reduceMod] <;> omega

/-- The lookup's entry: the entry of the table's row that y names. -/
theorem taken_apply (t : FVec Ideal S1000x64 .f32) (y : IVec S4096 32) (hy : InRows y) (i : Fin 4096) (k : Fin 64) :
    taken t y (ix2 i k) = t (ix2 (rowOf (y (ix1 i))) k) := by
  have hm : broadcastInDim S4096x64 ![0] bcast_S4096_S4096x64_0 (named y) (ix2 i k) = 1#1 := by
    refine (broadcastInDim_apply ![0] bcast_S4096_S4096x64_0 (named y) (ix2 i k) (ix1 i) fun a => ?_).trans (named_apply y hy _)
    match a with
    | ⟨0, _⟩ => exact (if_neg (show ¬(4096 : ℕ) = 1 by decide)).symm
  have hc : column y (ix2 i (0 : Fin 1)) = BitVec.ofNat 32 (rowOf (y (ix1 i))).val := by
    rw [column_apply y hy]
    show y (ix1 i) = BitVec.ofNat 32 ((y (ix1 i)).toNat % 1000)
    rw [Nat.mod_eq_of_lt (hy (ix1 i)), BitVec.ofNat_toNat, BitVec.setWidth_eq]
  unfold taken
  show Scalar.select _ _ _ = _
  rw [hm]
  exact Routing.gather_row _ rfl rfl rfl rfl rfl t (column y) i k _ hc (by decide)

/-! ## The first layer -/

/-- The first layer's sum over the joined axis is the sum over the features and the sum over the looked-up row. -/
theorem host_first (x : FVec Ideal S4096x1024 .f32) (e : FVec Ideal S4096x64 .f32) (w : FVec Ideal S1088x1024 .f32)
    (b : FVec Ideal S1024 .f32) (r : Fin 4096) (n : Fin 1024) :
    dense (fun k : Fin 1088 => concatenate S4096x1088 1 [⟨S4096x1024, x⟩, ⟨S4096x64, e⟩]
        concatenates_S4096x1024_S4096x64_S4096x1088_d1 (ix2 r k)) w b n
      = first (fun k => x (ix2 r k)) (fun k => e (ix2 r k)) w b n := by
  unfold dense first
  refine congrArg (fun u : EReal => u + b (ix1 n)) ?_
  refine (Fin.sum_univ_add (a := 1024) (b := 64) fun k : Fin (1024 + 64) => concatenate S4096x1088 1 [⟨S4096x1024, x⟩, ⟨S4096x64, e⟩]
        concatenates_S4096x1024_S4096x64_S4096x1088_d1 (ix2 r k) * w (ix2 k n)).trans ?_
  refine congrArg₂ (fun u v : EReal => u + v) (Finset.sum_congr rfl fun k _ => ?_) (Finset.sum_congr rfl fun k _ => ?_)
  · refine congrArg₂ (fun u v : EReal => u * v) (concatenate_pair_apply_left (t := S4096x1088) 1 x e _ _ rfl (ix2 r k) fun a => ?_) rfl
    match a with
    | ⟨0, _⟩ => rfl
    | ⟨1, _⟩ => rfl
  · refine congrArg₂ (fun u v : EReal => u * v)
      (concatenate_pair_apply_right (t := S4096x1088) 1 x e _ _ rfl rfl (ix2 r k) (fun a ha => ?_) ?_) rfl
    · match a with
      | ⟨0, _⟩ => rfl
      | ⟨1, _⟩ => exact absurd rfl ha
    · show k.val + 1024 = 1024 + k.val
      omega

/-! ## The whole result -/

variable (m : (ℓ : Loc nD τ sig) → Buf (Elt Ideal) ℓ) (c : Dev nD)

/-- **What the reference returns**: entry i is the score of row i. -/
theorem res_apply (hy : InRows (m ((c.tc : Thread nD τ).loc main_arg1))) (i : Fin 4096) :
    Value.res_main_v33 m c (ix1 i)
      = score (fun k => m ((c.tc : Thread nD τ).loc main_arg0) (ix2 i k))
          (fun k => m ((c.tc : Thread nD τ).loc main_arg2) (ix2 (rowOf (m ((c.tc : Thread nD τ).loc main_arg1) (ix1 i))) k))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) := by
  unfold Value.res_main_v33
  refine (shapeCast_apply _ _ (ix1 i) (ix2 i (0 : Fin 1)) ?_).trans ?_
  · rw [Shape.rowMajor_val_two, Shape.rowMajor_val_one]
    show i.val * 1 + 0 = i.val
    omega
  refine (host_dense _ (m ((c.tc : Thread nD τ).loc main_arg9)) (m ((c.tc : Thread nD τ).loc main_arg10)) _ _ i 0).trans
    (dense_congr (fun k => ?_) _ _ 0)
  refine (host_leak _ _ _).trans (congrArg leak ((host_dense _ (m ((c.tc : Thread nD τ).loc main_arg7))
    (m ((c.tc : Thread nD τ).loc main_arg8)) _ _ i k).trans (dense_congr (fun k => ?_) _ _ k)))
  refine (host_leak _ _ _).trans (congrArg leak ((host_dense _ (m ((c.tc : Thread nD τ).loc main_arg5))
    (m ((c.tc : Thread nD τ).loc main_arg6)) _ _ i k).trans (dense_congr (fun k => ?_) _ _ k)))
  refine (host_leak _ _ _).trans (congrArg leak ((host_dense _ (m ((c.tc : Thread nD τ).loc main_arg3))
    (m ((c.tc : Thread nD τ).loc main_arg4)) _ _ i k).trans ?_))
  refine (host_first _ (taken (m ((c.tc : Thread nD τ).loc main_arg2)) (m ((c.tc : Thread nD τ).loc main_arg1))) _ _ i k).trans ?_
  exact congrArg (fun e => first _ e _ _ k) (funext fun k => taken_apply _ _ hy i k)

end Cert.Proof.Lookup

end
-- ==== Proof.Claims.lean ====
/-
  The claims, put together from the run of the program, the precondition read back, and the two closed forms of a score:
  the kernel's frame at its own floats and at the extended reals, the reference's frame, and the equality of the two results
  over the extended reals.
-/
module

public import proofs.«01_k».proof.Defs
public import proofs.«01_k».proof.Proof.Bounds
public import proofs.«01_k».proof.Proof.KernelScore
public import proofs.«01_k».proof.Proof.HostScore
public import proofs.«01_k».proof.Proof.Gen.Kernel
public import Idealize.ShloMosaic.Adequacy
public import Idealize.ShloMosaic.Init

@[expose] public section

set_option maxRecDepth 16384

noncomputable section

namespace Cert.Proof.Lookup

open Cert.KernelIdeal Cert.KernelIdeal.Gen
open Idealize.ShloMosaic Idealize.ShloMosaic.TcCoe Idealize.SL.Sem
open Idealize.ShloMosaic.ValueIdx (ix1 ix2)

section Frames
variable {F : FTy → Type} [FloatOps F]

/-- What a run leaves of the program's arrays, as `run_main` says it, leaves alone every array the program never writes. -/
theorem kept_of_run {m M : (ℓ : Loc nD τ sig) → Buf (Elt F) ℓ} (h : ∀ (d : Dev nD), ∀ b ∈ bufs, M (d, b) = V₅ m d b) (d : Dev nD)
    (b : Ref sig .tc) (hb : (dr b).isScoped = false) (hw : b ∉ written) :
    M ((d.tc : Thread nD τ).loc b) = m ((d.tc : Thread nD τ).loc b) :=
  (h d (dr b) (mem_bufs b hb)).trans (V₅_kept m d b hw)

/-- All eleven arguments are such arrays. -/
theorem args_of_run {m M : (ℓ : Loc nD τ sig) → Buf (Elt F) ℓ} (h : ∀ (d : Dev nD), ∀ b ∈ bufs, M (d, b) = V₅ m d b) (d : Dev nD) :
    M ((d.tc : Thread nD τ).loc main_arg0) = m ((d.tc : Thread nD τ).loc main_arg0)
    ∧ M ((d.tc : Thread nD τ).loc main_arg1) = m ((d.tc : Thread nD τ).loc main_arg1)
    ∧ M ((d.tc : Thread nD τ).loc main_arg2) = m ((d.tc : Thread nD τ).loc main_arg2)
    ∧ M ((d.tc : Thread nD τ).loc main_arg3) = m ((d.tc : Thread nD τ).loc main_arg3)
    ∧ M ((d.tc : Thread nD τ).loc main_arg4) = m ((d.tc : Thread nD τ).loc main_arg4)
    ∧ M ((d.tc : Thread nD τ).loc main_arg5) = m ((d.tc : Thread nD τ).loc main_arg5)
    ∧ M ((d.tc : Thread nD τ).loc main_arg6) = m ((d.tc : Thread nD τ).loc main_arg6)
    ∧ M ((d.tc : Thread nD τ).loc main_arg7) = m ((d.tc : Thread nD τ).loc main_arg7)
    ∧ M ((d.tc : Thread nD τ).loc main_arg8) = m ((d.tc : Thread nD τ).loc main_arg8)
    ∧ M ((d.tc : Thread nD τ).loc main_arg9) = m ((d.tc : Thread nD τ).loc main_arg9)
    ∧ M ((d.tc : Thread nD τ).loc main_arg10) = m ((d.tc : Thread nD τ).loc main_arg10) := by
  refine ⟨?_, ?_, ?_, ?_, ?_, ?_, ?_, ?_, ?_, ?_, ?_⟩ <;> exact kept_of_run h d _ rfl (by decide)

end Frames

/-! ## The program and its reading over the extended reals have one text -/

/-- The kernels' bodies are the same, label by label on each kind of processor. -/
theorem defs₀_eq {F : FTy → Type} [FloatOps F] : Cert.Kernel.defs₀ (F := F) = Cert.KernelIdeal.defs₀ (F := F) := by
  funext p ℓ a
  match p, ℓ, a with
  | .tc, 0, a => rfl
  | .tc, 1, (t, s) => rfl
  | .scScalar c, 0, a => rfl
  | .scScalar c, 1, a => rfl
  | .scVector c s, 0, a => rfl
  | .scVector c s, 1, a => rfl

/-- So are the bodies with the calls around them. -/
theorem defs_eq {F : FTy → Type} [FloatOps F] : Cert.Kernel.defs (F := F) = Cert.KernelIdeal.defs (F := F) :=
  congrArg (fun D => Cert.KernelIdeal.sc.defs (Pipeline.defs Cert.KernelIdeal.pcfgs D)) defs₀_eq

/-! ## The claims -/

/-- The program at its own floats runs, leaves its arguments as they were, and returns every counter to zero. -/
theorem frame_kernel : Cert.quiescent_Kernel := by
  intro m ρ hpre
  rw [defs_eq]
  exact (θ_run (Cert.KernelIdeal.defs (F := Bits)) (Cert.KernelIdeal.threads (F := Bits)) _).mono
    (fun _ h => ⟨fun c => args_of_run h.1 c, h.2⟩)
    (run_main (F := Bits) m ρ (fun d => inRows_of_pre _ _ _ _ _ _ _ _ _ _ _ (hpre d)))

/-- The same over the extended reals. -/
theorem frame_kernelIdeal : Cert.quiescent_KernelIdeal := fun m ρ hpre =>
  (θ_run (Cert.KernelIdeal.defs (F := Ideal)) _ _).mono (fun _ h => ⟨fun c => args_of_run h.1 c, h.2⟩)
    (run_main (F := Ideal) m ρ (fun d => inRows_of_pre _ _ _ _ _ _ _ _ _ _ _ (hpre d)))

/-- The reference runs and leaves its arguments as they were; it has no counters. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

/-- So it does under the precondition. -/
theorem frame_reference_in_range : Cert.quiescent_ReferenceIdeal_pre_in_range := fun m ρ _ => frame_reference m ρ trivial

/-- From arguments that agree, the two programs return the same scores over the extended reals. -/
theorem same_scores : Cert.algebraic_KernelIdeal_ReferenceIdeal := by
  intro m ρ m' ρ' hpre hargs
  have hy : ∀ d : Dev nD, InRows (m ((d.tc : Thread nD τ).loc main_arg1)) :=
    fun d => inRows_of_pre _ _ _ _ _ _ _ _ _ _ _ (hpre d)
  refine ⟨fun c => V₅ m c (dr main_v7),
    (θ_run (Cert.KernelIdeal.defs (F := Ideal)) _ _).mono
      (fun _ h c => ⟨h.1 c (dr main_v7) (mem_bufs main_v7 rfl), args_of_run h.1 c⟩) (run_main (F := Ideal) m ρ hy),
    (θ_run Cert.ReferenceIdeal.defs _ _).mono (fun _ h c => ⟨(h c).1.trans ?_, (h c).2⟩)
      (Cert.ReferenceIdeal.Value.run m' ρ')⟩
  obtain ⟨h0, h1, h2, h3, h4, h5, h6, h7, h8, h9, h10⟩ := hargs c
  refine Eq.trans ?_ (V₅_out m c).symm
  refine funext fun j => ?_
  rw [ValueIdx.eq_ix1 j]
  refine (res_apply m' c (h1.symm ▸ hy c) (j 0)).trans (Eq.trans ?_ (outOf_apply _ _ _ _ _ _ _ _ _ _ _ (j 0)).symm)
  rw [h0, h1, h2, h3, h4, h5, h6, h7, h8, h9, h10]

end Cert.Proof.Lookup

end
-- ==== Proof.lean ====
/-
  The proof of `Cert.Claim`: the side conditions of the four programs, the kernel's frame at its own floats and over the
  extended reals, the reference's frame without and with the precondition, the kernel read over the extended reals (its
  own text, so there is nothing to show), and the equality of the kernel's scores with the reference's.
  Proof/Main.lean runs the program, Proof/KernelScore.lean and Proof/HostScore.lean say what the two results are, and
  Proof/Claims.lean puts the claims together.
-/
module

public import proofs.«01_k».proof.Defs
public import proofs.«01_k».proof.Proof.Claims
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range

@[expose] public section

noncomputable section

namespace Cert.Proof

/-- Every claim of this certificate. -/
theorem claim : Cert.Claim :=
  ⟨Cert.Kernel.Gen.facts, Cert.KernelIdeal.Gen.facts, Cert.ReferenceIdeal.Gen.facts, Cert.Pre_in_range.Gen.facts,
    Lookup.frame_kernel, Lookup.frame_kernelIdeal, Lookup.frame_reference, Lookup.frame_reference_in_range, trivial,
    Lookup.same_scores⟩

end Cert.Proof

end
